-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x128 : Shape := ⟨3, ![1, 512, 128]⟩
abbrev S10001x128 : Shape := ⟨2, ![10001, 128]⟩
abbrev S512x128 : Shape := ⟨2, ![512, 128]⟩
abbrev S1024x128 : Shape := ⟨2, ![1024, 128]⟩
abbrev S64x128 : Shape := ⟨2, ![64, 128]⟩
abbrev S_ : Shape := ⟨0, ![]⟩
abbrev S1x16 : Shape := ⟨2, ![1, 16]⟩
abbrev S16 : Shape := ⟨1, ![16]⟩
abbrev S512x512x128 : Shape := ⟨3, ![512, 512, 128]⟩
abbrev S16x512x128 : Shape := ⟨3, ![16, 512, 128]⟩

abbrev nBuf : Table → Nat
  | .hbm => 5
  | .local .tc .vmem => 4
  | .local .scVector .vmem => 2
  | _ => 0

abbrev bufTy : (tb : Table) → Fin (nBuf tb) → BufTy
  | .hbm, ⟨0, _⟩ => ⟨S1x512x128, .f32⟩
  | .hbm, ⟨1, _⟩ => ⟨S10001x128, .f32⟩
  | .hbm, ⟨2, _⟩ => ⟨S512x128, .f32⟩
  | .hbm, ⟨3, _⟩ => ⟨S1024x128, .f32⟩
  | .hbm, ⟨4, _⟩ => ⟨S512x512x128, .f32⟩
  | .local .tc .vmem, ⟨0, _⟩ => ⟨S512x128, .f32⟩
  | .local .tc .vmem, ⟨1, _⟩ => ⟨S1024x128, .f32⟩
  | .local .tc .vmem, ⟨2, _⟩ => ⟨S16x512x128, .f32⟩
  | .local .tc .vmem, ⟨3, _⟩ => ⟨S16x512x128, .f32⟩
  | .local .scVector .vmem, ⟨0, _⟩ => ⟨S64x128, .f32⟩
  | .local .scVector .vmem, ⟨1, _⟩ => ⟨S64x128, .f32⟩
  | _, _ => ⟨S1x512x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => true
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let c4488_i32 : BitVec 32 := 4488#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c4488_i32 v2
  let c0_i32_1977_r0 : BitVec 32 := 0#32
  ![v3.toNat, 0]
def k0_off2 (i : grid0.Coords) : Fin 2 → Nat :=
  let c960_i32 : BitVec 32 := 960#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let v3588 : BitVec 32 := Scalar.subi c960_i32 v2
  let c0_i32_1977_r1 : BitVec 32 := 0#32
  ![v3588.toNat, 0]
abbrev grid1 : Pipeline.Grid := ⟨1, ![32], ![false]⟩

def k1_off1 (i : grid1.Coords) (c0_i32 : BitVec 32) : Fin 2 → Nat :=
  let c511_i32 : BitVec 32 := 511#32
  let arg0 : BitVec 32 := BitVec.ofNat 32 (i 0).val
  let c16_i32 : BitVec 32 := 16#32
  let v0 : BitVec 32 := Scalar.muli arg0 c16_i32
  let v1 : BitVec 32 := Scalar.subi c511_i32 v0
  let v2 : BitVec 32 := Scalar.subi v1 c0_i32
  let v5 : Index := Scalar.indexCast v2
  let c0_1 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x512x128 : Shape := ⟨3, ![1, 512, 128]⟩
abbrev S10001x128 : Shape := ⟨2, ![10001, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S512x512x128 : Shape := ⟨3, ![512, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S10001x128, .f32⟩
  | .hbm, ⟨2, _⟩ => ⟨S512, .f32⟩
  | .hbm, ⟨3, _⟩ => ⟨S512x1, .f32⟩
  | .hbm, ⟨4, _⟩ => ⟨S1x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512x1, .i32⟩
  | .hbm, ⟨28, _⟩ => ⟨S1, .i32⟩
  | .hbm, ⟨29, _⟩ => ⟨S_, .i32⟩
  | .hbm, ⟨30, _⟩ => ⟨S512x512x1, .i32⟩
  | .hbm, ⟨31, _⟩ => ⟨S512x512x1, .i1⟩
  | .hbm, ⟨32, _⟩ => ⟨S1x1x1, .i32⟩
  | .hbm, ⟨33, _⟩ => ⟨S512x512x1, .i32⟩
  | .hbm, ⟨34, _⟩ => ⟨S512x512x1, .i1⟩
  | .hbm, ⟨35, _⟩ => ⟨S512x512x1, .i1⟩
  | .hbm, ⟨36, _⟩ => ⟨S_, .i1⟩
  | .hbm, ⟨37, _⟩ => ⟨S512x512, .i1⟩
  | .hbm, ⟨38, _⟩ => ⟨S512x512x128, .f32⟩
  | .hbm, ⟨39, _⟩ => ⟨S512x512x128, .i1⟩
  | .hbm, ⟨40, _⟩ => ⟨S_, .f32⟩
  | .hbm, ⟨41, _⟩ => ⟨S512x512x128, .f32⟩
  | .hbm, ⟨42, _⟩ => ⟨S512x512x128, .f32⟩
  | .hbm, ⟨43, _⟩ => ⟨S512x512x128, .f32⟩
  | .hbm, ⟨44, _⟩ => ⟨S512x512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩

abbrev nD : Nat := 1
abbrev τ : Topo := Topo.v7x

variable {F : FTy → Type} [FloatOps F]
-- ==== Proof.Ideal.Unroll.lean ====
/-
  The two kernel bodies as repetitions of one step.

  The printed SparseCore body is a copy in, 512 unrolled groups of sixteen lanes, a copy out; the printed TensorCore
  body is sixteen unrolled blocks.  Here each group is ONE program, `group k`, and the body is the copy in, the groups
  `0 … 511` and the copy out (`tile_unrolled`); likewise `plane` and `planes_unrolled`.  Both equations hold by
  unfolding the definitions.
-/
module

public import Idealize.ShloMosaic.Lib.Tactic
public import proofs.«01_k».proof.Proof.Gen.KernelIdeal

@[expose] public section

noncomputable section

namespace Cert.KernelIdeal.Unroll

open Cert.KernelIdeal Cert.KernelIdeal.Gen
open Idealize.ShloMosaic Idealize.ShloMosaic.TcCoe Idealize.ShloMosaic.Tactic
open Idealize.SL.Sem

variable {F : FTy → Type} [FloatOps F]

/-! ## The SparseCore body -/

/-- Row and first lane of group `k` of a 64 × 128 scratch: eight groups of sixteen lanes in a row. -/
abbrev rowOf (k : ℕ) : ℕ := k / 8 % 64
abbrev laneOf (k : ℕ) : ℕ := 16 * (k % 8)

/-- The place group `k` is read from (its row counted from the last) and the place it is written to. -/
abbrev srcOff (k : ℕ) : Fin 2 → ℕ := ![63 - rowOf k, laneOf k]
abbrev dstOff (k : ℕ) : Fin 2 → ℕ := ![rowOf k, laneOf k]

theorem off_inb {r : ℕ} (hr : r ≤ 63) (k : ℕ) : ∀ a, (![r, laneOf k] : Fin 2 → ℕ) a + S1x16.size a ≤ S64x128.size a := by
  intro a
  match a with
  | 0 => show r + 1 ≤ 64; omega
  | 1 => show 16 * (k % 8) + 16 ≤ 128; omega

theorem src_inb (k : ℕ) : ∀ a, srcOff k a + S1x16.size a ≤ S64x128.size a := off_inb (Nat.sub_le _ _) k
theorem dst_inb (k : ℕ) : ∀ a, dstOff k a + S1x16.size a ≤ S64x128.size a :=
  off_inb (Nat.le_of_lt_succ (Nat.mod_lt _ (by decide))) k

abbrev srcRect (k : ℕ) : Rect S64x128 := Rect.unit (s := S64x128) (srcOff k) S1x16.size (src_inb k)
abbrev dstRect (k : ℕ) : Rect S64x128 := Rect.unit (s := S64x128) (dstOff k) S1x16.size (dst_inb k)

section Tile

variable (i : grid0.Coords)
  (arg2 : Memref sig .scVector .hbm S10001x128 .f32) (harg2 : arg2.IsWhole)
  (arg3 : Memref sig .scVector .hbm S1024x128 .f32) (harg3 : arg3.IsWhole)
  (arg4 : Memref sig .scVector .vmem S64x128 .f32) (harg4 : arg4.IsWhole)
  (arg5 : Memref sig .scVector .vmem S64x128 .f32) (harg5 : arg5.IsWhole)
  (r0 r1 : DmaSems sig S_)

/-- A tile's programs. -/
abbrev TProg (F : FTy → Type) [FloatOps F] (i : grid0.Coords) (α : Type) :=
  Prog (TpuEff nD τ sig (Elt F) Λ₀ (.scVector ((i 0).castLE hcore0) ((i 1).castLE hsub0))) α

/-- What a group stores: the sixteen lanes read, through the two changes of shape the program writes. -/
abbrev lanes (v : Vec F S1x16 .f32) : FVec F S1x16 .f32 :=
  shapeCast S1x16 (shapeCast S16 v shapeCasts_S1x16_S16) shapeCasts_S16_S1x16

/-- Group `k`, and then `rest`: sixteen lanes of the first scratch, written to the second (whose old lanes are read
    and not used). -/
def group (k : ℕ) (rest : TProg F i PUnit) : TProg F i PUnit :=
  Prog.op (.load arg4 (srcRect k).toLoadRect (View.loadsAt_vmem h_S1x16)) fun v =>
    Prog.op (.load arg5 (dstRect k).toLoadRect (View.loadsAt_vmem h_S1x16)) fun _ =>
      Prog.op (.store arg5 (dstRect k) (lanes v) Finset.univ (View.stores_vmem_bits_univ h_S1x16 rfl) (.inl rfl)) fun _ => rest

/-- The last `n` of the 512 groups, and then `rest`. -/
def groups (rest : TProg F i PUnit) (n : ℕ) : TProg F i PUnit :=
  Nat.rec rest (fun j tail => group i arg4 arg5 (511 - j) tail) n

theorem groups_succ (rest : TProg F i PUnit) (n : ℕ) :
    groups i arg4 arg5 rest (n + 1) = group i arg4 arg5 (511 - n) (groups i arg4 arg5 rest n) := rfl

/-- The table's rows the tile copies in, and the rows of the reversed window it copies out to. -/
abbrev inRows : Memref sig .scVector .hbm S64x128 .f32 :=
  arg2.slice (Rect.unit (s := S10001x128) (k0_off1 i) S64x128.size (k0_off1_inb i)) (fun _ => rfl)
abbrev outRows : Memref sig .scVector .hbm S64x128 .f32 :=
  arg3.slice (Rect.unit (s := S1024x128) (k0_off2 i) S64x128.size (k0_off2_inb i)) (fun _ => rfl)

/-- The copy out, and its wait. -/
def copyOut : TProg F i PUnit :=
  Prog.op (.enqueueDma arg5 (.here (outRows i arg3)) (.dma r1.sem) harg5.wordExact (View.wordExact_bits rfl) ⟨Or.inl rfl, trivial⟩) fun _ =>
    Prog.op (.waitDma2 r1.sem arg5 (outRows i arg3) harg5.wordExact (View.wordExact_bits rfl)) fun _ => .ret ⟨⟩

/-- The copy in, its wait, the 512 groups, the copy out. -/
def tile : TProg F i PUnit :=
  Prog.op (.enqueueDma (inRows i arg2) (.here arg4) (.dma r0.sem) (View.wordExact_bits rfl) harg4.wordExact ⟨Or.inl rfl, trivial⟩) fun _ =>
    Prog.op (.waitDma2 r0.sem (inRows i arg2) arg4 (View.wordExact_bits rfl) harg4.wordExact) fun _ =>
      groups i arg4 arg5 (copyOut i arg3 arg5 harg5 r1) 512

theorem tile_unrolled :
    cc0__lambda_ (F := F) i arg2 harg2 arg3 harg3 arg4 harg4 arg5 harg5 r0 r1 = tile i arg2 arg3 arg4 harg4 arg5 harg5 r0 r1 := by
  sl_kernel_rfl

end Tile

/-! ## The TensorCore body -/

/-- Plane `r` of a block of sixteen, as the store names it, and the rows of the reversed window added to it. -/
abbrev planeRect (r : Fin 16) : Rect S16x512x128 :=
  Rect.unit (s := S16x512x128) ![r.val, 0, 0] S1x512x128.size (fun a => by
    match a with
    | 0 => show r.val + 1 ≤ 16; omega
    | 1 => exact Nat.le_refl _
    | 2 => exact Nat.le_refl _)
abbrev wholeRect : Rect S512x128 := Rect.unit (s := S512x128) ![0, 0] S512x128.size inb_S512x128_S512x128_0_0
abbrev shiftRect (i : grid1.Coords) (r : Fin 16) : Rect S1024x128 :=
  Rect.unit (s := S1024x128) (k1_off1 i (BitVec.ofNat 32 r.val)) S512x128.size (k1_off1_inb i r)

section Core

variable (i : grid1.Coords)
  (arg1 : Memref sig .tc .vmem S512x128 .f32) (harg1 : arg1.IsWhole)
  (arg2 : Memref sig .tc .vmem S1024x128 .f32) (harg2 : arg2.IsWhole)
  (arg3 : Memref sig .tc .vmem S16x512x128 .f32) (harg3 : arg3.IsWhole)

/-- The TensorCore's programs. -/
abbrev CProg (F : FTy → Type) [FloatOps F] (α : Type) := Prog (TpuEff nD τ sig (Elt F) Λ₀ .tc) α

/-- What a plane stores: the input plus the rows of the window, as one plane of the block. -/
abbrev sumPlane (x y : Vec F S512x128 .f32) : FVec F S1x512x128 .f32 :=
  shapeCast S1x512x128 (addf (shapeCast S512x128 x shapeCasts_S512x128_S512x128) (shapeCast S512x128 y shapeCasts_S512x128_S512x128))
    shapeCasts_S512x128_S1x512x128

/-- Plane `r`, and then `rest`: the input and the shifted rows read, their sum stored (over a plane read and not
    used). -/
def plane (r : Fin 16) (rest : CProg F PUnit) : CProg F PUnit :=
  Prog.op (.load arg1 wholeRect.toLoadRect (View.loadsAt_vmem h_S512x128)) fun x =>
    Prog.op (.load arg2 (shiftRect i r).toLoadRect (View.loadsAt_vmem h_S512x128)) fun y =>
      Prog.op (.load arg3 (planeRect r).toLoadRect (View.loadsAt_vmem h_S1x512x128)) fun _ =>
        Prog.op (.store arg3 (planeRect r) (sumPlane x y) Finset.univ (View.stores_vmem_bits_univ h_S1x512x128 rfl) (.inl rfl)) fun _ => rest

/-- The last `n` of the sixteen planes. -/
def planes (n : ℕ) : CProg F PUnit :=
  Nat.rec (.ret ⟨⟩) (fun j tail => plane i arg1 arg2 arg3 ⟨15 - j, Nat.lt_succ_of_le (Nat.sub_le _ _)⟩ tail) n

theorem planes_succ (n : ℕ) :
    planes (F := F) i arg1 arg2 arg3 (n + 1)
      = plane i arg1 arg2 arg3 ⟨15 - n, Nat.lt_succ_of_le (Nat.sub_le _ _)⟩ (planes i arg1 arg2 arg3 n) := rfl

theorem planes_unrolled :
    cc1__lambda_ (F := F) i arg1 harg1 arg2 harg2 arg3 harg3 = planes i arg1 arg2 arg3 16 := by
  sl_kernel_rfl

end Core

end Cert.KernelIdeal.Unroll

end
-- ==== Proof.Ideal.Setup.lean ====
/-
  The set-up: the SparseCore program as the launch theorem sees it, the ghost state (the handshakes' rounds, the
  TensorCore pipeline's rounds, the transfers' counters), the buffers, and the reversed window `REV` the SparseCore
  call leaves: row `r` of it is row `5511 - r` of the table.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Ideal.Unroll

@[expose] public section

noncomputable section

namespace Cert.KernelIdeal.Setup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UU : Type := UH × (UP × Counters)

/-- The machine's resource algebra. -/
abbrev MM (F : FTy → Type) : Type := MT nD τ sig (HIx 1) (Elt F) ℕ UU ℕ

abbrev EH : Emb UH (MM F) := embL
/-- The TensorCore pipeline's component. -/
def EP : Emb UP (MM F) := (Emb.inl : Emb UP (UP × Counters)).trans embR

instance EP_landsIn : (EP : Emb UP (MM F)).LandsIn (upEmb : UEmb _ (MM F)) := by
  unfold EP; infer_instance

/-! ## The buffers -/

variable (m : (ℓ : Loc nD τ sig) → Buf (Elt F) ℓ)

abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev rLoc (d : Dev nD) : Loc nD τ sig := (SparseCore.T d).loc main_v1
abbrev oLoc (d : Dev nD) : Loc nD τ sig := (SparseCore.T d).loc main_v2

/-- The table's place that place `y` of the reversed window holds: row `5511 - y 0`, the same lane. -/
def revIdx (y : S1024x128.Idx) : S10001x128.Idx := fun a =>
  match a with
  | ⟨0, _⟩ => ⟨5511 - (y 0).val, show 5511 - (y 0).val < 10001 by omega⟩
  | ⟨1, _⟩ => ⟨(y 1).val, show (y 1).val < 128 from (y 1).isLt⟩

theorem revIdx_zero (y : S1024x128.Idx) : (revIdx y 0).val = 5511 - (y 0).val := rfl
theorem revIdx_one (y : S1024x128.Idx) : (revIdx y 1).val = (y 1).val := rfl

/-- The reversed window of the table. -/
def REV (d : Dev nD) : Buf (Elt F) (rLoc d) := fun y => m (tLoc d) (revIdx y)

end Cert.KernelIdeal.Setup

end
-- ==== Proof.Ideal.Planes.lean ====
/-
  The TensorCore's body at a point: from the input block `x` and the reversed window `y` it leaves, in the output's
  block of sixteen planes, plane `r` at `x` plus the rows of `y` that start `16 t + r` before row 511.
-/
module

public import proofs.«01_k».proof.Proof.Ideal.Setup
public import Idealize.ShloMosaic.Lib.WritesUnit
public import Idealize.ShloMosaic.Lib.Pipeline.Value

@[expose] public section

noncomputable section

namespace Cert.KernelIdeal.Planes

open Cert.KernelIdeal Cert.KernelIdeal.Gen Cert.KernelIdeal.Setup Cert.KernelIdeal.Unroll
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- The place of the input added at place `z` of a block: its row and lane. -/
def inIdx (z : S16x512x128.Idx) : S512x128.Idx := fun a =>
  match a with
  | ⟨0, _⟩ => ⟨(z 1).val, show (z 1).val < 512 from (z 1).isLt⟩
  | ⟨1, _⟩ => ⟨(z 2).val, show (z 2).val < 128 from (z 2).isLt⟩

/-- The place of the reversed window added at place `z` of the block of point `t`. -/
def shIdx (t : ℕ) (z : S16x512x128.Idx) : S1024x128.Idx := fun a =>
  match a with
  | ⟨0, _⟩ => ⟨511 - (16 * t + (z 0).val) + (z 1).val, show _ < 1024 by have : (z 1).val < 512 := (z 1).isLt; omega⟩
  | ⟨1, _⟩ => ⟨(z 2).val, show (z 2).val < 128 from (z 2).isLt⟩

/-- The block of sixteen planes point `t` leaves. -/
def block (t : ℕ) (x : FVec F S512x128 .f32) (y : FVec F S1024x128 .f32) : FVec F S16x512x128 .f32 :=
  addf (fun z => x (inIdx z)) (fun z => y (shIdx t z))

/-- What plane `r` stores is the block's plane `r`. -/
theorem sumPlane_eq (i : grid1.Coords) (r : Fin 16) (x : FVec F S512x128 .f32) (y : FVec F S1024x128 .f32) (j : S1x512x128.Idx) :
    sumPlane (fun k => x (wholeRect.emb k)) (fun k => y ((shiftRect i r).emb k)) j = block (i 0).val x y ((planeRect r).emb j) := by
  have h0 : (j 0).val = 0 := by have : (j 0).val < 1 := (j 0).isLt; omega
  unfold sumPlane
  rw [shapeCast_self, shapeCast_self]
  refine (shapeCast_addUnit_apply ![512, 128] _ shapeCasts_S512x128_S1x512x128 j).trans ?_
  unfold block
  refine congrArg₂ FloatOps.addf (congrArg x (funext fun a => Fin.ext ?_)) (congrArg y (funext fun a => Fin.ext ?_))
  · match a with
    | ⟨0, _⟩ => rfl
    | ⟨1, _⟩ => rfl
  · match a with
    | ⟨0, _⟩ =>
      show k1_off1 i (BitVec.ofNat 32 r.val) 0 + 1 * (j 1).val = 511 - (16 * (i 0).val + (r.val + 1 * (j 0).val)) + (0 + 1 * (j 1).val)
      rw [k1_off1_eq, h0]
      show 511 - (16 * (i 0).val + r.val) + 1 * (j 1).val = _
      omega
    | ⟨1, _⟩ =>
      show k1_off1 i (BitVec.ofNat 32 r.val) 1 + 1 * (j 2).val = 0 + 1 * (j 2).val
      rw [k1_off1_eq]
      rfl

/-- One plane written over a block whose planes before `r` are right: the planes up to `r` are. -/
theorem written (v : View sig .tc .vmem S16x512x128 .f32) (f : v.ty.Contents (Elt F)) (r : Fin 16)
    (g : S16x512x128.Idx → Elt F .f32) (w : S1x512x128.Idx → Elt F .f32) (hw : ∀ x, w x = g ((planeRect r).emb x))
    (hf : ∀ z : S16x512x128.Idx, (z 0).val < r.val → v.read (Elt F) f z = g z) (z : S16x512x128.Idx)
    (hz : (z 0).val < r.val + 1) :
    v.read (Elt F) (v.writes (Elt F) f [⟨planeRect r, w⟩]) z = g z := by
  have h1 : (z 1).val < 512 := (z 1).isLt
  have h2 : (z 2).val < 128 := (z 2).isLt
  by_cases hlt : (z 0).val < r.val
  · exact (View.read_writes_cons_unit_of_not_mem v f _ w [] z rfl 0 (.inl hlt)).trans (hf z hlt)
  · let x : S1x512x128.Idx := fun a => match a with
      | ⟨0, _⟩ => ⟨0, Nat.one_pos⟩
      | ⟨1, _⟩ => ⟨(z 1).val, h1⟩
      | ⟨2, _⟩ => ⟨(z 2).val, h2⟩
    have hx : ∀ a : Fin 3, (z a).val = (![r.val, 0, 0] : Fin 3 → ℕ) a + (x a).val := by
      intro a
      match a with
      | 0 => show (z 0).val = r.val + 0; omega
      | 1 => show (z 1).val = 0 + (z 1).val; omega
      | 2 => show (z 2).val = 0 + (z 2).val; omega
    refine (View.read_writes_cons_unit_of_mem v f _ w [] z x rfl hx).trans ?_
    rw [hw]
    refine congrArg g (funext fun a => Fin.ext ?_)
    match a with
    | 0 => show r.val + 1 * 0 = (z 0).val; omega
    | 1 => show 0 + 1 * (z 1).val = (z 1).val; omega
    | 2 => show 0 + 1 * (z 2).val = (z 2).val; omega

section

variable (d : Dev nD) (i : grid1.Coords)
  (arg1 : Memref sig .tc .vmem S512x128 .f32) (arg2 : Memref sig .tc .vmem S1024x128 .f32) (arg3 : Memref sig .tc .vmem S16x512x128 .f32)

theorem written_step (f1 : Buf (Elt F) (arg1.view.loc (d : Thread nD τ))) (f2 : Buf (Elt F) (arg2.view.loc (d : Thread nD τ)))
    (f3 : Buf (Elt F) (arg3.view.loc (d : Thread nD τ))) (r : Fin 16)
    (hf : ∀ z : S16x512x128.Idx, (z 0).val < r.val →
      arg3.view.read (Elt F) f3 z = block (i 0).val (arg1.view.read (Elt F) f1) (arg2.view.read (Elt F) f2) z) :
    ∀ z : S16x512x128.Idx, (z 0).val < r.val + 1 →
      arg3.view.read (Elt F) (arg3.view.writes (Elt F) f3 [⟨planeRect r,
          sumPlane ((arg1.access wholeRect).read (Elt F) f1) ((arg2.access (shiftRect i r)).read (Elt F) f2)⟩]) z
        = block (i 0).val (arg1.view.read (Elt F) f1) (arg2.view.read (Elt F) f2) z := by
  intro z hz
  have h := written arg3.view f3 r (block (i 0).val (arg1.view.read (Elt F) f1) (arg2.view.read (Elt F) f2))
    (sumPlane ((arg1.access wholeRect).read (Elt F) f1) ((arg2.access (shiftRect i r)).read (Elt F) f2))
    (fun x => sumPlane_eq i r (arg1.view.read (Elt F) f1) (arg2.view.read (Elt F) f2) x) hf z hz
  exact h

/-- One plane: the block is left with the plane written. -/
theorem wp_plane (rest : CProg F PUnit) (q1 q2 : PosShare TreeShare) (f1 : Buf (Elt F) (arg1.view.loc (d : Thread nD τ)))
    (f2 : Buf (Elt F) (arg2.view.loc (d : Thread nD τ))) (f3 : Buf (Elt F) (arg3.view.loc (d : Thread nD τ))) (Q : PUnit → sProp 𝕄) (r : Fin 16) :
    iprop((arg1.view.loc (d : Thread nD τ) ↦[arg1.view.set]{q1} f1) ∗ (arg2.view.loc (d : Thread nD τ) ↦[arg2.view.set]{q2} f2)
        ∗ (arg3.view.loc (d : Thread nD τ) ↦[arg3.view.set]{fullShare} f3)
        ∗ ((arg1.view.loc (d : Thread nD τ) ↦[arg1.view.set]{q1} f1) -∗ (arg2.view.loc (d : Thread nD τ) ↦[arg2.view.set]{q2} f2)
            -∗ (arg3.view.loc (d : Thread nD τ) ↦[arg3.view.set]{fullShare}
                arg3.view.writes (Elt F) f3 [⟨planeRect r,
                  sumPlane ((arg1.access wholeRect).read (Elt F) f1) ((arg2.access (shiftRect i r)).read (Elt F) f2)⟩])
            -∗ wp frame (wpE (defs₀ (F := F)) 𝒱₀ (d : Thread nD τ) none) Set.univ rest Q))
      ⊢ wp frame (wpE (defs₀ (F := F)) 𝒱₀ (d : Thread nD τ) none) Set.univ (plane i arg1 arg2 arg3 r rest) Q := by
  unfold plane
  iintro ⟨H1, H2, H3, Hk⟩
  iapply (wp_load_rect (m := arg1) (r := wholeRect) 𝒱₀ (d : Thread nD τ) none Set.univ (View.set_slice_subset _ _)) $$ H1
  iintro H1
  iapply (wp_load_rect (m := arg2) (r := shiftRect i r) 𝒱₀ (d : Thread nD τ) none Set.univ (View.set_slice_subset _ _)) $$ H2
  iintro H2
  iapply (wp_load_rect (m := arg3) (r := planeRect r) 𝒱₀ (d : Thread nD τ) none Set.univ (View.set_slice_subset _ _)) $$ H3
  iintro H3
  iapply (wp_store_writes₀ (m := arg3) (r := planeRect r)
    (w := sumPlane ((arg1.access wholeRect).read (Elt F) f1) ((arg2.access (shiftRect i r)).read (Elt F) f2))
    (f := f3) (S := arg3.view.set) 𝒱₀ (d : Thread nD τ) none Set.univ (View.set_slice_subset _ _)) $$ H3
  iintro H3
  iapply Hk $$ H1 H2 H3

/-- The planes still to write, the planes before them right: at the end the block is right throughout. -/
theorem wp_planes (q1 q2 : PosShare TreeShare) (f1 : Buf (Elt F) (arg1.view.loc (d : Thread nD τ)))
    (f2 : Buf (Elt F) (arg2.view.loc (d : Thread nD τ))) (Q : PUnit → sProp 𝕄) (n : ℕ) :
    ∀ (_ : n ≤ 16) (f3 : Buf (Elt F) (arg3.view.loc (d : Thread nD τ)))
      (_ : ∀ z : S16x512x128.Idx, (z 0).val < 16 - n →
        arg3.view.read (Elt F) f3 z = block (i 0).val (arg1.view.read (Elt F) f1) (arg2.view.read (Elt F) f2) z),
    iprop((arg1.view.loc (d : Thread nD τ) ↦[arg1.view.set]{q1} f1) ∗ (arg2.view.loc (d : Thread nD τ) ↦[arg2.view.set]{q2} f2)
        ∗ (arg3.view.loc (d : Thread nD τ) ↦[arg3.view.set]{fullShare} f3)
        ∗ (∀ f, ⌜∀ z, arg3.view.read (Elt F) f z = block (i 0).val (arg1.view.read (Elt F) f1) (arg2.view.read (Elt F) f2) z⌝
            -∗ (arg1.view.loc (d : Thread nD τ) ↦[arg1.view.set]{q1} f1) -∗ (arg2.view.loc (d : Thread nD τ) ↦[arg2.view.set]{q2} f2)
            -∗ (arg3.view.loc (d : Thread nD τ) ↦[arg3.view.set]{fullShare} f) -∗ Q ⟨⟩))
      ⊢ wp frame (wpE (defs₀ (F := F)) 𝒱₀ (d : Thread nD τ) none) Set.univ (planes i arg1 arg2 arg3 n) Q := by
  induction n with
  | zero =>
    intro _ f3 hf
    have hf' : ∀ z, arg3.view.read (Elt F) f3 z = block (i 0).val (arg1.view.read (Elt F) f1) (arg2.view.read (Elt F) f2) z := by
      intro z
      have h0 : (z 0).val < 16 := (z 0).isLt
      exact hf z (by omega)
    show _ ⊢ wp frame (wpE (defs₀ (F := F)) 𝒱₀ (d : Thread nD τ) none) Set.univ (Prog.ret ⟨⟩) Q
    iintro ⟨H1, H2, H3, Hk⟩
    sl_step
    iapply Hk $$ %f3 %hf' H1 H2 H3
  | succ n ih =>
    intro hn f3 hf
    rw [planes_succ]
    obtain ⟨r, hr⟩ : ∃ r : Fin 16, r = ⟨15 - n, Nat.lt_succ_of_le (Nat.sub_le _ _)⟩ := ⟨_, rfl⟩
    rw [← hr]
    have hrv : r.val = 15 - n := congrArg Fin.val hr
    have hk1 : 16 - (n + 1) = r.val := by omega
    have hk2 : 16 - n = r.val + 1 := by omega
    rw [hk1] at hf
    rw [hk2] at ih
    have hf' := written_step d i arg1 arg2 arg3 f1 f2 f3 r hf
    iintro ⟨H1, H2, H3, Hk⟩
    iapply (wp_plane d i arg1 arg2 arg3 (planes i arg1 arg2 arg3 n) q1 q2 f1 f2 f3 Q r) $$ [H1 H2 H3 Hk]
    isplitl [H1]; · iexact H1
    isplitl [H2]; · iexact H2
    isplitl [H3]; · iexact H3
    iintro H1 H2 H3
    iapply (ih (by omega) _ hf') $$ [H1 H2 H3 Hk]
    isplitl [H1]; · iexact H1
    isplitl [H2]; · iexact H2
    isplitl [H3]; · iexact H3
    iexact Hk

/-- The body's triple: the input and the window read, the block left at `block`. -/
theorem body_triple (harg1 : arg1.IsWhole) (harg2 : arg2.IsWhole) (harg3 : arg3.IsWhole)
    (x : FVec F S512x128 .f32) (y : FVec F S1024x128 .f32) (Q : PUnit → sProp 𝕄) :
    iprop(owns (d : Thread nD τ) arg1 fullShare x ∗ owns (d : Thread nD τ) arg2 fullShare y ∗ (∃ z, owns (d : Thread nD τ) arg3 fullShare z)
        ∗ (iprop(owns (d : Thread nD τ) arg1 fullShare x ∗ owns (d : Thread nD τ) arg2 fullShare y
            ∗ owns (d : Thread nD τ) arg3 fullShare (block (i 0).val x y)) -∗ Q ⟨⟩))
      ⊢ wp frame (wpE (defs₀ (F := F)) 𝒱₀ (d : Thread nD τ) none) Set.univ
          (cc1__lambda_ i arg1 harg1 arg2 harg2 arg3 harg3) Q := by
  rw [planes_unrolled]
  unfold owns
  iintro ⟨⟨%f1, %h1, H1⟩, ⟨%f2, %h2, H2⟩, ⟨%z, %f3, -, H3⟩, Hk⟩
  subst h1 h2
  iapply (wp_planes d i arg1 arg2 arg3 fullShare fullShare f1 f2 Q 16 le_rfl f3 (fun z hz => absurd hz (by omega))) $$ [H1 H2 H3 Hk]
  isplitl [H1]; · iexact H1
  isplitl [H2]; · iexact H2
  isplitl [H3]; · iexact H3
  iintro %f %hf H1 H2 H3
  iapply Hk $$ [H1 H2 H3]
  isplitl [H1]
  · iexists f1; isplitr
    · ipureintro; rfl
    · iexact H1
  isplitl [H2]
  · iexists f2; isplitr
    · ipureintro; rfl
    · iexact H2
  iexists f; isplitr
  · ipureintro; exact funext hf
  · iexact H3

end

end Cert.KernelIdeal.Planes

end
-- ==== Proof.Ideal.Core.lean ====
/-
  The TensorCore's pipeline: what its arrays hold when it starts, what the body leaves at each point, and so what the
  result array holds at the end: `out[i, j, c] = x[j, c] + rev[511 - i + j, c]`.
-/
module

public import proofs.«01_k».proof.Proof.Gen.KernelIdeal.Launch
public import proofs.«01_k».proof.Proof.Gen.KernelIdeal.Points
public import proofs.«01_k».proof.Proof.Ideal.Planes
public import Idealize.ShloMosaic.Lib.Pipeline.FrameBody

@[expose] public section

noncomputable section

namespace Cert.KernelIdeal.Core

open Cert.KernelIdeal Cert.KernelIdeal.Gen Cert.KernelIdeal.Setup Cert.KernelIdeal.Planes
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MM F

variable (m : (ℓ : Loc nD τ sig) → Buf (Elt F) ℓ)

/-! ## The values -/

/-- The place of the argument that place `y` of the reshaped input holds. -/
def argIdx (y : S512x128.Idx) : S1x512x128.Idx := fun a =>
  match a with
  | ⟨0, _⟩ => ⟨0, Nat.one_pos⟩
  | ⟨1, _⟩ => ⟨(y 0).val, show (y 0).val < 512 from (y 0).isLt⟩
  | ⟨2, _⟩ => ⟨(y 1).val, show (y 1).val < 128 from (y 1).isLt⟩

/-- The reshaped input. -/
def XV (d : Dev nD) : Buf (Elt F) (xLoc d) := fun y => m (aLoc d) (argIdx y)

/-- The place of the reshaped input added at place `o` of the result. -/
def rowIdx (o : S512x512x128.Idx) : S512x128.Idx := fun a =>
  match a with
  | ⟨0, _⟩ => ⟨(o 1).val, show (o 1).val < 512 from (o 1).isLt⟩
  | ⟨1, _⟩ => ⟨(o 2).val, show (o 2).val < 128 from (o 2).isLt⟩

/-- The place of the reversed window added at place `o` of the result. -/
def winIdx (o : S512x512x128.Idx) : S1024x128.Idx := fun a =>
  match a with
  | ⟨0, _⟩ => ⟨511 - (o 0).val + (o 1).val, show _ < 1024 by have : (o 1).val < 512 := (o 1).isLt; omega⟩
  | ⟨1, _⟩ => ⟨(o 2).val, show (o 2).val < 128 from (o 2).isLt⟩

/-- The result array. -/
def OUT (d : Dev nD) : Buf (Elt F) (oLoc d) :=
  (addf (fun o => XV m d (rowIdx o)) (fun o => REV m d (winIdx o)) : FVec F S512x512x128 .f32)

/-! ## The pipeline's proof data -/

/-- The arrays as the pipeline finds them. -/
def ent (d : Dev nD) : (w : Fin cfg1.W) → Buf (Elt F) ((cfg1.win w).arr.view.loc (d.tc : Thread nD τ))
  | ⟨0, _⟩ => XV m d
  | ⟨1, _⟩ => REV m d
  | ⟨2, _⟩ => m (oLoc d)

/-- Window `w`'s block at point `t`, as the pipeline finds it. -/
def iblk (d : Dev nD) (w : Fin cfg1.W) (t : Fin cfg1.N) : ((cfg1.win w).xblock (cfg1.grid.coords t)).Idx → Elt F (cfg1.win w).elt :=
  ((cfg1.win w).blk t).view.read (Elt F) (ent m d w)

/-- The proof data: the arrays at `ent`; after the body at a point the inputs' buffers at their blocks, the output's at
    the block of sixteen planes; nothing owed; the waits recorded at entry are at most at the call's level. -/
def dat (d : Dev nD) : Dat τ (Elt F) (HIx 1) ℕ UU ℕ cfg1 d where
  A w := ent m d w
  after w t := match w with
    | ⟨0, _⟩ => iblk m d 0 t
    | ⟨1, _⟩ => iblk m d 1 t
    | ⟨2, _⟩ => block (grid1.coords t 0).val (iblk m d 0 t) (iblk m d 1 t)
  Φ _ := iprop(emp)
  q _ := fullShare
  owed _ := 0
  recorded _ := {p | (K (F := F)).lev (SparseCore.T d, p.1) p.2 ≤ 8}

theorem A_eq (d : Dev nD) (w : Fin cfg1.W) : (dat m d).A w = ent m d w := by dsimp only [dat]
theorem after_0 (d : Dev nD) (t : Fin cfg1.N) : (dat m d).after 0 t = iblk m d 0 t := by dsimp only [dat]
theorem after_1 (d : Dev nD) (t : Fin cfg1.N) : (dat m d).after 1 t = iblk m d 1 t := by dsimp only [dat]
theorem after_2 (d : Dev nD) (t : Fin cfg1.N) : (dat m d).after 2 t = block (grid1.coords t 0).val (iblk m d 0 t) (iblk m d 1 t) := by dsimp only [dat]

theorem before_0 (d : Dev nD) (t : Fin cfg1.N) (e) : (dat m d).before 0 t e = iblk m d 0 t :=
  ((dat m d).before_in_eq_fetched 0 rfl (fun _ => rfl) (fun _ _ _ => rfl)
    (fun t => by rw [after_0]; unfold Dat.blockOf iblk; rw [A_eq]; try rfl) t e).trans
    (by unfold Dat.fetched Dat.blockOf iblk; rw [A_eq]; try rfl)
theorem before_1 (d : Dev nD) (t : Fin cfg1.N) (e) : (dat m d).before 1 t e = iblk m d 1 t :=
  ((dat m d).before_in_eq_fetched 1 rfl (fun _ => rfl) (fun _ _ _ => rfl)
    (fun t => by rw [after_1]; unfold Dat.blockOf iblk; rw [A_eq]; try rfl) t e).trans
    (by unfold Dat.fetched Dat.blockOf iblk; rw [A_eq]; try rfl)

/-! ## The body obligation -/

def bodyPre (d : Dev nD) (t : Fin cfg1.N) : sProp 𝕄 :=
  iprop((dat m d).Φ t.castSucc ∗ (dat m d).owesAt none t.castSucc
    ∗ (∃ e, owns (d : Thread nD τ) (st1_0 t) fullShare ((dat m d).before 0 t e))
    ∗ (∃ e, owns (d : Thread nD τ) (st1_1 t) fullShare ((dat m d).before 1 t e))
    ∗ (∃ e, owns (d : Thread nD τ) (st1_2 t) fullShare ((dat m d).before 2 t e)))

def bodyPost (d : Dev nD) (t : Fin cfg1.N) : sProp 𝕄 :=
  iprop((dat m d).Φ t.succ ∗ (dat m d).owesAt none t.succ
    ∗ owns (d : Thread nD τ) (st1_0 t) fullShare ((dat m d).after 0 t)
    ∗ owns (d : Thread nD τ) (st1_1 t) fullShare ((dat m d).after 1 t)
    ∗ owns (d : Thread nD τ) (st1_2 t) fullShare ((dat m d).after 2 t))

theorem sound_body (d : Dev nD) (t : Fin cfg1.N) :
    bodyPre m d t ⊢ wp frame (wpE (defs₀ (F := F)) 𝒱₀ (d : Thread nD τ) none) Set.univ (bodyAt1 t) (fun _ => bodyPost m d t) := by
  unfold bodyPre bodyPost bodyAt1
  simp only [before_0, before_1]
  rw [show (dat m d).Φ t.succ = (dat m d).Φ t.castSucc from rfl,
    show (dat m d).owesAt none t.succ = (dat m d).owesAt none t.castSucc from rfl, after_0, after_1, after_2]
  iintro ⟨HΦ, Ho, ⟨%d0, H0⟩, ⟨%d1, H1⟩, ⟨%d2, H2⟩⟩
  iapply (body_triple d (grid1.coords t) _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) :
    defs₀ (F := F) .tc cfg1.body (cfg1.bodyArgs t (cfg1.slots t)) = bodyAt1 t := by
  rfl

theorem body_obligation (d : Dev nD) : BodyObligation (dat (F := F) m d) (defs₀ (F := F)) 𝒱₀ none Set.univ := fun t => by
  rw [bigSep_W1, bigSep_W1, defs₀_row]
  exact triple_restated (sound_body m d t) rfl .rfl fun _ => .rfl

/-! ## The result array -/

theorem coords_val : ∀ t : Fin cfg1.N, (grid1.coords t 0).val = t.val :=
  (by decide +kernel : ∀ t : Fin grid1.N, (grid1.coords t 0).val = t.val)

theorem index2 : ∀ t : Fin cfg1.N, win1_2.index t = ![t.val, 0, 0] :=
  (by decide +kernel : ∀ t : Fin grid1.N, win1_2.index t = ![t.val, 0, 0])

/-- The inputs' blocks are their whole arrays. -/
theorem iblk_0 (d : Dev nD) (t : Fin cfg1.N) : (iblk m d 0 t : FVec F S512x128 .f32) = XV m d := by
  funext y
  refine congrArg (XV m d) (funext fun a => Fin.ext ?_)
  exact win1_0.rect_emb_val_of_index_zero t a (by match a with | ⟨0, _⟩ => rfl | ⟨1, _⟩ => rfl) y
theorem iblk_1 (d : Dev nD) (t : Fin cfg1.N) : (iblk m d 1 t : FVec F S1024x128 .f32) = REV m d := by
  funext y
  refine congrArg (REV m d) (funext fun a => Fin.ext ?_)
  exact win1_1.rect_emb_val_of_index_zero t a (by match a with | ⟨0, _⟩ => rfl | ⟨1, _⟩ => rfl) y

theorem blk_emb (t : Fin cfg1.N) (z : S16x512x128.Idx) (a : Fin 3) :
    (((cfg1.win 2).blk t).view.emb z a).val = (![t.val, 0, 0] : Fin 3 → ℕ) a * S16x512x128.size a + (z a).val := by
  have h := win1_2.rect_emb_val t z a
  rw [index2] at h
  exact h

/-- What point `t` writes back is its block of `OUT`. -/
theorem flushed_eq (d : Dev nD) (t : Fin cfg1.N) :
    (dat m d).flushed 2 t = ((cfg1.win 2).blk t).view.read (Elt F) (OUT m d) := by
  show (cfg1.win 2).cut (grid1.coords t) ((dat m d).after 2 t) = _
  rw [after_2, iblk_0, iblk_1, coords_val]
  funext z
  have e0 : (((cfg1.win 2).blk t).view.emb z 0).val = t.val * 16 + (z 0).val := blk_emb t z 0
  have e1 : (((cfg1.win 2).blk t).view.emb z 1).val = 0 * 512 + (z 1).val := blk_emb t z 1
  have e2 : (((cfg1.win 2).blk t).view.emb z 2).val = 0 * 128 + (z 2).val := blk_emb t z 2
  refine congrArg₂ FloatOps.addf (congrArg (XV m d) (funext fun a => Fin.ext ?_)) (congrArg (REV m d) (funext fun a => Fin.ext ?_))
  · match a with
    | ⟨0, _⟩ => show (z 1).val = (((cfg1.win 2).blk t).view.emb z 1).val; omega
    | ⟨1, _⟩ => show (z 2).val = (((cfg1.win 2).blk t).view.emb z 2).val; omega
  · match a with
    | ⟨0, _⟩ =>
      show 511 - (16 * t.val + (z 0).val) + (z 1).val
        = 511 - (((cfg1.win 2).blk t).view.emb z 0).val + (((cfg1.win 2).blk t).view.emb z 1).val
      rw [e0, e1, Nat.mul_comm t.val 16, Nat.zero_mul, Nat.zero_add]
    | ⟨1, _⟩ => show (z 2).val = (((cfg1.win 2).blk t).view.emb z 2).val; omega

/-- Every place of the result is in some point's block. -/
theorem covered (i : S512x512x128.Idx) : ∃ t : Fin cfg1.N, (cfg1.win 2).flush t = true ∧ i ∈ ((cfg1.win 2).blk t).view.set := by
  have h0 : (i 0).val < 512 := (i 0).isLt
  let t : Fin cfg1.N := ⟨(i 0).val / 16, by show _ < grid1.N; rw [N_1]; omega⟩
  let z : S16x512x128.Idx := fun a => match a with
    | ⟨0, _⟩ => ⟨(i 0).val % 16, Nat.mod_lt _ (by decide)⟩
    | ⟨1, _⟩ => ⟨(i 1).val, (i 1).isLt⟩
    | ⟨2, _⟩ => ⟨(i 2).val, (i 2).isLt⟩
  refine ⟨t, flush1_2 t, ?_⟩
  have hz : ((cfg1.win 2).blk t).view.emb z = i := by
    funext a
    refine Fin.ext ((blk_emb t z a).trans ?_)
    match a with
    | ⟨0, _⟩ => show (i 0).val / 16 * 16 + (i 0).val % 16 = (i 0).val; omega
    | ⟨1, _⟩ => show 0 * 512 + (i 1).val = (i 1).val; omega
    | ⟨2, _⟩ => show 0 * 128 + (i 2).val = (i 2).val; omega
  rw [← hz]
  exact View.emb_mem_set _ z

/-- The arrays at the end. -/
theorem final_0 (d : Dev nD) : (dat m d).arrAt 0 cfg1.N = XV m d := ((dat m d).arrAt_in 0 rfl _).trans (A_eq m d 0)
theorem final_1 (d : Dev nD) : (dat m d).arrAt 1 cfg1.N = REV m d := ((dat m d).arrAt_in 1 rfl _).trans (A_eq m d 1)
theorem final_2 (d : Dev nD) : (dat m d).arrAt 2 cfg1.N = OUT m d :=
  (dat m d).arrAt_eq_of_cover 2 (OUT m d) (fun t _ => flushed_eq m d t) covered

end Cert.KernelIdeal.Core

end
-- ==== Proof.Ideal.Region.lean ====
/-
  The TensorCore's call as one region of @main: entered holding the five arrays and owing nothing, left with the
  result array at `OUT` and the rest as it was.
-/
module

public import proofs.«01_k».proof.Proof.Ideal.Core

@[expose] public section

noncomputable section

namespace Cert.KernelIdeal.Region

open Cert.KernelIdeal Cert.KernelIdeal.Gen Cert.KernelIdeal.Setup Cert.KernelIdeal.Core
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (m : (ℓ : Loc nD τ sig) → Buf (Elt F) ℓ)

/-- No table is prefetched. -/
abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c
  | 0 => dat m

/-- The windows' arrays, one by one. -/
theorem arrays_list (d : Dev nD) (G : (w : Fin cfg1.W) → Buf (Elt F) ((cfg1.win w).arr.view.loc (d.tc : Thread nD τ))) :
    ((pdats m 0 d).arrays G : sProp 𝕄)
      = iprop((xLoc d ↦{fullShare} G 0) ∗ (rLoc d ↦{fullShare} G 1) ∗ (oLoc d ↦{fullShare} G 2)) :=
  (Pipeline.arrays_eq (Pipeline.pin (pcfgs (F := F)) adm) (pdats m) 0 d arr_whole1
    ((pdats m 0 d).share_full fun _ => rfl) G).trans (bigSep_W1 _)

theorem bigSep_fin0 {M : Type} [URA M] (Φ : Fin 0 → sProp M) : bigSep Finset.univ Φ = (BI.emp : sProp M) :=
  bigSep_univ_eq_bigSepL [] (by decide) (by decide) Φ

theorem no_table (d : Dev nD) (q) (pf) :
    (Pipeline.prefHeld (Ix := HIx 1) (Name := ℕ) (U := UU) (Lvl := ℕ) (Val := Elt F) (pcfgs (F := F) 0).pre d q pf : sProp 𝕄) = BI.emp :=
  bigSep_fin0 _

/-- Nothing owed, every recorded wait at most at the call's level: before the region and after it. -/
abbrev idle (d : Dev nD) : sProp 𝕄 :=
  iprop(∃ W, ⌜(K (F := F)).WBelow (SparseCore.T d) W 8⌝ ∗ owes (SparseCore.T d) (0 : CellTallies nD τ sig (HIx 1)) W)

theorem idle_in (d : Dev nD) (t) : idle d ⊢ ((dat m d).owesAt none t : sProp 𝕄) := by
  unfold Pipeline.Dat.owesAt Pipeline.owesWithin
  rw [show (dat m d).owed t = 0 from rfl]
  iintro ⟨%W, %hW, HO⟩
  iexists W; isplitr
  · ipureintro; exact fun p hp => Or.inl (hW p hp)
  · iexact HO

theorem idle_out (d : Dev nD) (t) : ((dat m d).owesAt none t : sProp 𝕄) ⊢ idle d := by
  unfold Pipeline.Dat.owesAt Pipeline.owesWithin
  rw [show (dat m d).owed t = 0 from rfl]
  iintro ⟨%W, %hW, HO⟩
  iexists W; isplitr
  · ipureintro
    intro p hp
    rcases hW hp with h | ⟨w, s, h⟩
    · exact h
    · rw [show p.2 = none from (congrArg Prod.snd h)]; exact Nat.zero_le _
  · iexact HO

/-- What the region is entered with, and what it leaves. -/
def pre (d : Dev nD) : sProp 𝕄 :=
  iprop((xLoc d ↦{fullShare} XV m d) ∗ (rLoc d ↦{fullShare} REV m d) ∗ (oLoc d ↦{fullShare} m (oLoc d)) ∗ idle d)
def post (d : Dev nD) : sProp 𝕄 := iprop((oLoc d ↦{fullShare} OUT m d) ∗ idle d)

def region : Pipeline.RegionSeg (pcfgs (F := F)) adm (pdats m) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m c).loose
  hwaits := Pipeline.hwaits_of_owed_zero _ _ _ _ _ _ 0 fun _ _ => rfl
  pre := pre m
  post := post m
  X _ := iprop(emp)
  Y _ := iprop(emp)
  Z _ := iprop(emp)
  hentry c := by
    rw [Pipeline.ownSems0_none, arrays_list, no_table]
    unfold pre
    iintro ⟨⟨Hx, Hr, Ho, HO⟩, -, -⟩
    imodintro
    isplitl [Hx Hr Ho]
    · isplitl [Hx]; · iexact Hx
      isplitl [Hr]; · iexact Hr
      iexact Ho
    isplitr; · iempintro
    isplitl [HO]; · iapply (idle_in m c 0); iexact HO
    isplitr <;> iempintro
  hin c := by
    rw [show (pdats m 0 c).Φ 0 = iprop(emp) from rfl]
    iintro -; iempintro
  hout c := by
    rw [show (Pipeline.scopedRest (Pipeline.pin (pcfgs (F := F)) adm 0).spec c : sProp 𝕄) = BI.emp from scopedRest1_eq c, Pipeline.ownSems0_none]
    iintro -
    isplitr; · iempintro
    isplitr <;> iempintro
  hexit c := by
    rw [arrays_list, show (pdats m 0 c).arrAt 2 (Pipeline.pin (pcfgs (F := F)) adm 0).N = OUT m c from final_2 m c]
    unfold post
    iintro ⟨⟨-, -, Ho⟩, HO, -, -⟩
    imodintro
    isplitl [Ho]; · iexact Ho
    iapply (idle_out m c _); iexact HO

end Cert.KernelIdeal.Region

end
-- ==== Proof.Ideal.Groups.lean ====
/-
  The tile's 512 groups: from a first scratch at any contents, they leave the second scratch holding its rows in
  reverse order.  By induction on the groups still to run: the places of the groups before are already right.
-/
module

public import proofs.«01_k».proof.Proof.Ideal.Setup
public import Idealize.ShloMosaic.Lib.WritesUnit
public import Idealize.ShloMosaic.Lib.Pipeline.Value

@[expose] public section

noncomputable section

namespace Cert.KernelIdeal.Groups

open Cert.KernelIdeal Cert.KernelIdeal.Gen Cert.KernelIdeal.Setup Cert.KernelIdeal.Unroll
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- The place with the rows counted from the last. -/
def flip (y : S64x128.Idx) : S64x128.Idx := fun a =>
  match a with
  | ⟨0, _⟩ => ⟨63 - (y 0).val, show 63 - (y 0).val < 64 by omega⟩
  | ⟨1, _⟩ => ⟨(y 1).val, show (y 1).val < 128 from (y 1).isLt⟩

theorem lanes_eq (v : Vec F S1x16 .f32) : lanes v = v := shapeCast_shapeCast v _ _

/-- One group written over a scratch whose places of the groups before `k` hold the reversed rows of `g`: the places
    up to `k` do. -/
theorem written (v : View sig .scVector .vmem S64x128 .f32) (f : v.ty.Contents (Elt F)) (k : ℕ) (hk : k < 512)
    (g : S64x128.Idx → Elt F .f32) (w : S1x16.Idx → Elt F .f32) (hw : ∀ x, w x = g ((srcRect k).emb x))
    (hf : ∀ y : S64x128.Idx, 8 * (y 0).val + (y 1).val / 16 < k → v.read (Elt F) f y = g (flip y)) (y : S64x128.Idx)
    (hy : 8 * (y 0).val + (y 1).val / 16 < k + 1) :
    v.read (Elt F) (v.writes (Elt F) f [⟨dstRect k, w⟩]) y = g (flip y) := by
  have h0 : (y 0).val < 64 := (y 0).isLt
  have h1 : (y 1).val < 128 := (y 1).isLt
  by_cases hlt : 8 * (y 0).val + (y 1).val / 16 < k
  · have hout : (y 0).val < k / 8 % 64 ∨ ((y 0).val = k / 8 % 64 ∧ (y 1).val < 16 * (k % 8)) := by omega
    refine Eq.trans ?_ (hf y hlt)
    rcases hout with h | ⟨-, h⟩
    · exact View.read_writes_cons_unit_of_not_mem v f (dst_inb k) w [] y rfl 0 (.inl h)
    · exact View.read_writes_cons_unit_of_not_mem v f (dst_inb k) w [] y rfl 1 (.inl h)
  · have hin : (y 0).val = k / 8 % 64 ∧ 16 * (k % 8) ≤ (y 1).val ∧ (y 1).val < 16 * (k % 8) + 16 := by omega
    have hx : ∀ a : Fin 2, dstOff k a ≤ (y a).val ∧ (y a).val < dstOff k a + S1x16.size a := by
      intro a
      match a with
      | 0 => show k / 8 % 64 ≤ (y 0).val ∧ (y 0).val < k / 8 % 64 + 1; omega
      | 1 => show 16 * (k % 8) ≤ (y 1).val ∧ (y 1).val < 16 * (k % 8) + 16; omega
    refine (View.read_writes_cons_unit v f (dst_inb k) w [] y rfl).trans ?_
    rw [dif_pos hx, hw]
    refine congrArg g (funext fun a => Fin.ext ?_)
    match a with
    | 0 =>
      show 63 - k / 8 % 64 + 1 * ((y 0).val - k / 8 % 64) = 63 - (y 0).val
      omega
    | 1 =>
      show 16 * (k % 8) + 1 * ((y 1).val - 16 * (k % 8)) = (y 1).val
      omega

section

variable (d : Dev nD) (i : grid0.Coords)
  (arg4 : Memref sig .scVector .vmem S64x128 .f32) (arg5 : Memref sig .scVector .vmem S64x128 .f32)

abbrev tid (d : Dev nD) (i : grid0.Coords) : Thread nD τ := V d ((i 0).castLE hcore0) ((i 1).castLE hsub0)

theorem written_step (f4 : Buf (Elt F) (arg4.view.loc (tid d i))) (f5 : Buf (Elt F) (arg5.view.loc (tid d i))) (k : ℕ) (hk : k < 512)
    (hf : ∀ y : S64x128.Idx, 8 * (y 0).val + (y 1).val / 16 < k →
        arg5.view.read (Elt F) f5 y = arg4.view.read (Elt F) f4 (flip y)) :
    ∀ y : S64x128.Idx, 8 * (y 0).val + (y 1).val / 16 < k + 1 →
      arg5.view.read (Elt F) (arg5.view.writes (Elt F) f5 [⟨dstRect k, lanes ((arg4.access (srcRect k)).read (Elt F) f4)⟩]) y
        = arg4.view.read (Elt F) f4 (flip y) := by
  intro y hy
  have h := written arg5.view f5 k hk (arg4.view.read (Elt F) f4) (lanes ((arg4.access (srcRect k)).read (Elt F) f4))
    (fun x => congrFun (lanes_eq ((arg4.access (srcRect k)).read (Elt F) f4)) x) hf y hy
  exact h

/-- One group: the second scratch is left with the group's lanes written. -/
theorem wp_group (rest : TProg F i PUnit) (f4 : Buf (Elt F) (arg4.view.loc (tid d i))) (Q : PUnit → sProp 𝕄) (k : ℕ)
    (f5 : Buf (Elt F) (arg5.view.loc (tid d i))) :
    iprop((arg4.view.loc (tid d i) ↦{fullShare} f4) ∗ (arg5.view.loc (tid d i) ↦{fullShare} f5)
        ∗ ((arg4.view.loc (tid d i) ↦{fullShare} f4)
            -∗ (arg5.view.loc (tid d i) ↦{fullShare}
                arg5.view.writes (Elt F) f5 [⟨dstRect k, lanes ((arg4.access (srcRect k)).read (Elt F) f4)⟩])
            -∗ wp frame (wpE (defs₀ (F := F)) 𝒱₀ (tid d i) none) Set.univ rest Q))
      ⊢ wp frame (wpE (defs₀ (F := F)) 𝒱₀ (tid d i) none) Set.univ (group i arg4 arg5 k rest) Q := by
  unfold group
  iintro ⟨H4, H5, Hk⟩
  iapply (wp_load_rect (m := arg4) (r := srcRect k) 𝒱₀ (tid d i) none Set.univ (Finset.subset_univ _)) $$ H4
  iintro H4
  iapply (wp_load_rect (m := arg5) (r := dstRect k) 𝒱₀ (tid d i) none Set.univ (Finset.subset_univ _)) $$ H5
  iintro H5
  have hS : (arg5.access (dstRect k)).set ⊆ Finset.univ := fun x _ => Finset.mem_univ x
  iapply (wp_store_writes₀ (m := arg5) (r := dstRect k) (w := lanes ((arg4.access (srcRect k)).read (Elt F) f4))
    (f := f5) (S := Finset.univ) 𝒱₀ (tid d i) none Set.univ hS) $$ H5
  iintro H5
  iapply Hk $$ H4 H5

/-- The groups still to run, from the first scratch at `f4` and the second with the places of the groups before right:
    what follows runs with the first at `f4` and the second at the reversed rows. -/
theorem wp_groups (rest : TProg F i PUnit) (f4 : Buf (Elt F) (arg4.view.loc (tid d i))) (Q : PUnit → sProp 𝕄) (n : ℕ) :
    ∀ (_ : n ≤ 512) (f5 : Buf (Elt F) (arg5.view.loc (tid d i)))
      (_ : ∀ y : S64x128.Idx, 8 * (y 0).val + (y 1).val / 16 < 512 - n →
        arg5.view.read (Elt F) f5 y = arg4.view.read (Elt F) f4 (flip y)),
    iprop((arg4.view.loc (tid d i) ↦{fullShare} f4) ∗ (arg5.view.loc (tid d i) ↦{fullShare} f5)
        ∗ (∀ f, ⌜∀ y, arg5.view.read (Elt F) f y = arg4.view.read (Elt F) f4 (flip y)⌝
            -∗ (arg4.view.loc (tid d i) ↦{fullShare} f4) -∗ (arg5.view.loc (tid d i) ↦{fullShare} f)
            -∗ wp frame (wpE (defs₀ (F := F)) 𝒱₀ (tid d i) none) Set.univ rest Q))
      ⊢ wp frame (wpE (defs₀ (F := F)) 𝒱₀ (tid d i) none) Set.univ (groups i arg4 arg5 rest n) Q := by
  induction n with
  | zero =>
    intro _ f5 hf
    have hf' : ∀ y, arg5.view.read (Elt F) f5 y = arg4.view.read (Elt F) f4 (flip y) := by
      intro y
      have h0 : (y 0).val < 64 := (y 0).isLt
      have h1 : (y 1).val < 128 := (y 1).isLt
      exact hf y (by omega)
    show _ ⊢ wp frame (wpE (defs₀ (F := F)) 𝒱₀ (tid d i) none) Set.univ rest Q
    iintro ⟨H4, H5, Hk⟩
    iapply Hk $$ %f5 %hf' H4 H5
  | succ n ih =>
    intro hn f5 hf
    rw [groups_succ]
    obtain ⟨k, hk⟩ : ∃ k, k = 511 - n := ⟨_, rfl⟩
    rw [← hk]
    have hk0 : k < 512 := by omega
    have hk1 : 512 - (n + 1) = k := by omega
    have hk2 : 512 - n = k + 1 := by omega
    rw [hk1] at hf
    rw [hk2] at ih
    have hf' := written_step d i arg4 arg5 f4 f5 k hk0 hf
    iintro ⟨H4, H5, Hk⟩
    iapply (wp_group d i arg4 arg5 (groups i arg4 arg5 rest n) f4 Q k f5) $$ [H4 H5 Hk]
    isplitl [H4]; · iexact H4
    isplitl [H5]; · iexact H5
    iintro H4 H5
    iapply (ih (by omega) _ hf') $$ [H4 H5 Hk]
    isplitl [H4]; · iexact H4
    isplitl [H5]; · iexact H5
    iexact Hk

end

end Cert.KernelIdeal.Groups

end
-- ==== Proof.Ideal.Tile.lean ====
/-
  The tile's body, once, at a symbolic tile: from its 64 rows of the table and its 64 rows of the reversed window, it
  brings back the table's rows as they were and the window's rows at `REV`.
-/
module

public import proofs.«01_k».proof.Proof.Ideal.Groups

@[expose] public section

noncomputable section

namespace Cert.KernelIdeal.Tile

open Cert.KernelIdeal Cert.KernelIdeal.Gen Cert.KernelIdeal.Setup Cert.KernelIdeal.Unroll Cert.KernelIdeal.Groups
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} (m : (ℓ : Loc nD τ sig) → Buf (Elt F) ℓ)

local notation "𝕄" => MM F

/-! ## The rows of a task -/

theorem tRow_inb (w : Fin 16) : ∀ a, (![4488 + 64 * w.val, 0] : Fin 2 → ℕ) a + S64x128.size a ≤ S10001x128.size a := by
  intro a
  match a with
  | 0 => show 4488 + 64 * w.val + 64 ≤ 10001; omega
  | 1 => show 0 + 128 ≤ 128; omega
theorem rRow_inb (w : Fin 16) : ∀ a, (![960 - 64 * w.val, 0] : Fin 2 → ℕ) a + S64x128.size a ≤ S1024x128.size a := by
  intro a
  match a with
  | 0 => show 960 - 64 * w.val + 64 ≤ 1024; omega
  | 1 => show 0 + 128 ≤ 128; omega

/-- The table's rows task `w` reads and the reversed window's rows it writes. -/
abbrev tRow (w : Fin 16) : Rect S10001x128 := Rect.unit (s := S10001x128) ![4488 + 64 * w.val, 0] S64x128.size (tRow_inb w)
abbrev rRow (w : Fin 16) : Rect S1024x128 := Rect.unit (s := S1024x128) ![960 - 64 * w.val, 0] S64x128.size (rRow_inb w)
abbrev tSet (w : Fin 16) : Finset S10001x128.Idx := (tRow w).set
abbrev rSet (w : Fin 16) : Finset S1024x128.Idx := (rRow w).set

abbrev tPts (d : Dev nD) (w : Fin 16) : sProp 𝕄 := tLoc d ↦[tSet w]{fullShare} m (tLoc d)
abbrev rPts (d : Dev nD) (w : Fin 16) (f : Buf (Elt F) (rLoc d)) : sProp 𝕄 := rLoc d ↦[rSet w]{fullShare} f

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

theorem core_zero : (L 0).val = 0 := by
  have h : (L 0).val < 1 := (L 0).isLt
  omega

theorem off1 : k0_off1 L = ![4488 + 64 * (jL L).val, 0] := by
  rw [k0_off1_eq, core_zero]
  show ![64 * (L 1).val + 64 * 0 + 4488, 0] = ![4488 + 64 * (L 1).val, 0]
  rw [Nat.mul_zero, Nat.add_zero, Nat.add_comm]

theorem off2 : k0_off2 L = ![960 - 64 * (jL L).val, 0] := by
  rw [k0_off2_eq, core_zero]
  show ![960 - (64 * (L 1).val + 64 * 0), 0] = ![960 - 64 * (L 1).val, 0]
  rw [Nat.mul_zero, Nat.add_zero]

theorem unit_congr {s : Shape} {off off' size : Fin s.rank → ℕ} (h : off = off') (i : ∀ a, off a + size a ≤ s.size a)
    (i' : ∀ a, off' a + size a ≤ s.size a) : Rect.unit (s := s) off size i = Rect.unit (s := s) off' size i' := by
  subst h; rfl

theorem set_in : (inRows L (Memref.whole main_arg1_scv : Memref sig .scVector .hbm S10001x128 .f32)).view.set = tSet (jL L) := by
  show ((View.whole (main_arg1_scv : Ref sig .scVector)).slice (Rect.unit (s := S10001x128) (k0_off1 L) S64x128.size (k0_off1_inb L))).set = _
  rw [View.set_slice]
  refine Finset.map_refl.trans ?_
  rw [unit_congr (off1 L) (k0_off1_inb L) (tRow_inb (jL L))]
theorem set_out : (outRows L (Memref.whole main_v1_scv : Memref sig .scVector .hbm S1024x128 .f32)).view.set = rSet (jL L) := by
  show ((View.whole (main_v1_scv : Ref sig .scVector)).slice (Rect.unit (s := S1024x128) (k0_off2 L) S64x128.size (k0_off2_inb L))).set = _
  rw [View.set_slice]
  refine Finset.map_refl.trans ?_
  rw [unit_congr (off2 L) (k0_off2_inb L) (rRow_inb (jL L))]

theorem pts_in (f : Buf (Elt F) (tLoc d)) :
    ((inRows L (Memref.whole main_arg1_scv : Memref sig .scVector .hbm S10001x128 .f32)).view.loc (V d (cV L) (jV L)) ↦[(inRows L (Memref.whole main_arg1_scv : Memref sig .scVector .hbm S10001x128 .f32)).view.set]{fullShare} f : sProp 𝕄) = tLoc d ↦[tSet (jL L)]{fullShare} f := by
  rw [set_in]
theorem pts_out (f : Buf (Elt F) (rLoc d)) :
    ((outRows L (Memref.whole main_v1_scv : Memref sig .scVector .hbm S1024x128 .f32)).view.loc (V d (cV L) (jV L)) ↦[(outRows L (Memref.whole main_v1_scv : Memref sig .scVector .hbm S1024x128 .f32)).view.set]{fullShare} f : sProp 𝕄) = rLoc d ↦[rSet (jL L)]{fullShare} f := by
  rw [set_out]
theorem pts_aV (f : Buf (Elt F) ((V d (cV L) (jV L)).loc cc0_scratch0)) :
    ((Memref.whole cc0_scratch0 : Memref sig .scVector .vmem S64x128 .f32).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((Memref.whole cc0_scratch1 : Memref sig .scVector .vmem S64x128 .f32).view.loc (V d (cV L) (jV L)) ↦{fullShare} f : sProp 𝕄) = (V d (cV L) (jV L)).loc cc0_scratch1 ↦{fullShare} f := rfl

/-- The table's place the tile's copy in lands at the place `flip y` is the place of the reversed window the copy out
    writes from `y`, reversed. -/
theorem emb_flip (y : S64x128.Idx) : (inRows L (Memref.whole main_arg1_scv : Memref sig .scVector .hbm S10001x128 .f32)).view.emb (flip y) = revIdx ((outRows L (Memref.whole main_v1_scv : Memref sig .scVector .hbm S1024x128 .f32)).view.emb y) := by
  have h1 := off1 L
  have h2 := off2 L
  have hj : (jL L).val < 16 := (jL L).isLt
  have h0 : (y 0).val < 64 := (y 0).isLt
  funext a
  apply Fin.ext
  match a with
  | ⟨0, _⟩ =>
    show k0_off1 L 0 + 1 * (63 - (y 0).val) = 5511 - (k0_off2 L 0 + 1 * (y 0).val)
    rw [h1, h2]
    show 4488 + 64 * (jL L).val + 1 * (63 - (y 0).val) = 5511 - (960 - 64 * (jL L).val + 1 * (y 0).val)
    omega
  | ⟨1, _⟩ =>
    show k0_off1 L 1 + 1 * (y 1).val = k0_off2 L 1 + 1 * (y 1).val
    rw [h1, h2]
    rfl

/-- What the copy out leaves in the tile's rows of the reversed window. -/
theorem out_eq (f : Buf (Elt F) (rLoc d)) (w : S64x128.Idx → Elt F .f32)
    (hw : ∀ y, w y = m (tLoc d) ((inRows L (Memref.whole main_arg1_scv : Memref sig .scVector .hbm S10001x128 .f32)).view.emb (flip y))) :
    ∀ j ∈ rSet (jL L), (outRows L (Memref.whole main_v1_scv : Memref sig .scVector .hbm S1024x128 .f32)).view.writes (Elt F) f [⟨Rect.whole S64x128, w⟩] j = REV m d j := by
  intro j hj
  rw [← set_out] at hj
  obtain ⟨y, -, rfl⟩ := Finset.mem_map.mp hj
  have h := View.read_writes_cons_emb (outRows L (Memref.whole main_v1_scv : Memref sig .scVector .hbm S1024x128 .f32)).view f (Rect.whole S64x128) w [] y
  rw [show (Rect.whole S64x128).emb y = y from Rect.emb_whole_apply S64x128 y, View.read_apply] at h
  rw [cast_eq] at h
  rw [h, hw, emb_flip]
  rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

/-- The two scratches are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

set_option maxHeartbeats 4000000 in
/-- The task on tile `(L 0, L 1)` of device `d`: copy in, its wait, the 512 groups, copy out, its wait. -/
theorem tile_body (hF : (K (F := F)).Facts) (O : CellTallies nD τ sig (HIx 1)) (W : Waits sig (HIx 1)) (hO : ∀ g, O g none = 0) :
    iprop(levAts (K (F := F)).L (K (F := F)).lev ∗ emp
        ∗ (tPts m d (jL L) ∗ rPts d (jL L) (m (rLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__lambda_ L (Memref.whole main_arg1_scv : Memref sig .scVector .hbm S10001x128 .f32) (Memref.isWhole_whole _) (Memref.whole main_v1_scv : Memref sig .scVector .hbm S1024x128 .f32) (Memref.isWhole_whole _)
            (Memref.whole cc0_scratch0 : Memref sig .scVector .vmem S64x128 .f32) (Memref.isWhole_whole _) (Memref.whole cc0_scratch1 : Memref sig .scVector .vmem S64x128 .f32) (Memref.isWhole_whole _) cc0_scoped0 cc0_scoped1)
          fun _ => iprop((tPts m d (jL L) ∗ rPts d (jL L) (REV m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [tile_unrolled]; unfold tile
  rw [(K (F := F)).scopedBufs_V hF d (cV L) (jV L), SparseCore.Cfg.scopedSems0_V (Val := Elt F) d (cV L) (jV L), ownSems0_V, ownBufs_V]
  iintro ⟨#Hlv, -, ⟨Ht, Hr⟩, ⟨⟨%fa, Ha⟩, ⟨%fb, Hb⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_in (F := F) d L _).symm) $$ Ht
  ihave Hr' := (Entails.of_eq (pts_out (F := F) d L _).symm) $$ Hr
  ihave Ha' := (Entails.of_eq (pts_aV (F := F) d L _).symm) $$ Ha
  ihave Hb' := (Entails.of_eq (pts_bV (F := F) d L _).symm) $$ Hb
  obtain ⟨G, hG⟩ : ∃ G, G = groups (F := F) L (Memref.whole cc0_scratch0 : Memref sig .scVector .vmem S64x128 .f32) (Memref.whole cc0_scratch1 : Memref sig .scVector .vmem S64x128 .f32) (copyOut L (Memref.whole main_v1_scv : Memref sig .scVector .hbm S1024x128 .f32) (Memref.whole cc0_scratch1 : Memref sig .scVector .vmem S64x128 .f32) (Memref.isWhole_whole _) cc0_scoped1) 512 := ⟨_, rfl⟩
  rw [← hG]
  sl_exec
  subst hG
  have hin : ∀ y, (Memref.whole cc0_scratch0 : Memref sig .scVector .vmem S64x128 .f32).view.read (Elt F) (View.write (Elt F) (Memref.whole cc0_scratch0 : Memref sig .scVector .vmem S64x128 .f32).view fa (tile_body.sl.dma0 m d L) Finset.univ) y
      = m (tLoc d) ((inRows L (Memref.whole main_arg1_scv : Memref sig .scVector .hbm S10001x128 .f32)).view.emb y) := by
    intro y
    rw [View.write_whole_univ]
    simp only [Memref.view_whole, View.read_whole]
    exact (View.read_apply _ _).trans (cast_eq _ _)
  iapply (wp_groups d L (Memref.whole cc0_scratch0 : Memref sig .scVector .vmem S64x128 .f32) (Memref.whole cc0_scratch1 : Memref sig .scVector .vmem S64x128 .f32) (copyOut L (Memref.whole main_v1_scv : Memref sig .scVector .hbm S1024x128 .f32) (Memref.whole cc0_scratch1 : Memref sig .scVector .vmem S64x128 .f32) (Memref.isWhole_whole _) cc0_scoped1) _ _ 512 le_rfl fb
    (fun y hy => absurd hy (by omega))) $$ [Hlv Ht' Hr' Ha' Hb' Hbufs HsemA HsemB Hsems HO Hmw]
  isplitl [Ha']; · iexact Ha'
  isplitl [Hb']; · iexact Hb'
  iintro %f %hf Ha' Hb'
  unfold copyOut
  sl_exec
  sl_step
  isplitl [Ht' Hr']
  · isplitl [Ht']; · iapply (Entails.of_eq (pts_in (F := F) d L _)); iexact Ht'
    ihave Hr := (Entails.of_eq (pts_out (F := F) d L _)) $$ Hr'
    iapply (Entails.of_eq (pointsTo_congr (out_eq m d L (m (rLoc d)) _ (fun y => (hf y).trans (hin (flip y)))))); iexact Hr
  isplitl [Ha' Hb' Hbufs]
  · isplitl [Ha']; · iexists _; iexact Ha'
    isplitl [Hb']; · iexists _; iexact Hb'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.Tile

end
-- ==== Proof.Ideal.Launch.lean ====
/-
  The SparseCore call's launch: what the handshakes carry (the 1024 rows of the table the tiles read, the reversed
  window before and after), how the call's operands split among the sixteen tiles and join again, the tiles'
  obligation.
-/
module

public import proofs.«01_k».proof.Proof.Ideal.Tile
public import Idealize.ShloMosaic.Lib.Pipeline.FrameBody

@[expose] public section

noncomputable section

namespace Cert.KernelIdeal.Launch

open Cert.KernelIdeal Cert.KernelIdeal.Gen Cert.KernelIdeal.Setup Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} (m : (ℓ : Loc nD τ sig) → Buf (Elt F) ℓ)

local notation "𝕄" => MM F

/-! ## The rows, together -/

/-- All the table's rows the tiles read. -/
def tAll : Finset S10001x128.Idx := (Finset.univ : Finset (Fin 16)).biUnion tSet

theorem tSet_disjoint : ∀ i ∈ (Finset.univ : Finset (Fin 16)), ∀ j ∈ (Finset.univ : Finset (Fin 16)), i ≠ j → Disjoint (tSet i) (tSet j) := by
  intro i _ j _ h
  rw [Finset.disjoint_left]
  intro y hi hj
  have hi := (Rect.mem_set_unit.mp hi) 0
  have hj := (Rect.mem_set_unit.mp hj) 0
  have hne : i.val ≠ j.val := fun e => h (Fin.ext e)
  change 4488 + 64 * i.val ≤ (y 0).val ∧ (y 0).val < 4488 + 64 * i.val + 64 at hi
  change 4488 + 64 * j.val ≤ (y 0).val ∧ (y 0).val < 4488 + 64 * j.val + 64 at hj
  omega

theorem rSet_disjoint : ∀ i ∈ (Finset.univ : Finset (Fin 16)), ∀ j ∈ (Finset.univ : Finset (Fin 16)), i ≠ j → Disjoint (rSet i) (rSet j) := by
  intro i _ j _ h
  rw [Finset.disjoint_left]
  intro y hi hj
  have hi := (Rect.mem_set_unit.mp hi) 0
  have hj := (Rect.mem_set_unit.mp hj) 0
  have hne : i.val ≠ j.val := fun e => h (Fin.ext e)
  have hi' := i.isLt
  have hj' := j.isLt
  change 960 - 64 * i.val ≤ (y 0).val ∧ (y 0).val < 960 - 64 * i.val + 64 at hi
  change 960 - 64 * j.val ≤ (y 0).val ∧ (y 0).val < 960 - 64 * j.val + 64 at hj
  omega

theorem rSet_cover : (Finset.univ : Finset (Fin 16)).biUnion rSet = Finset.univ := by
  refine Finset.eq_univ_of_forall fun y => ?_
  have h0 : (y 0).val < 1024 := (y 0).isLt
  have h1 : (y 1).val < 128 := (y 1).isLt
  refine Finset.mem_biUnion.mpr ⟨⟨15 - (y 0).val / 64, by omega⟩, Finset.mem_univ _, Rect.mem_set_unit.mpr fun a => ?_⟩
  match a with
  | ⟨0, _⟩ =>
    show 960 - 64 * (15 - (y 0).val / 64) ≤ (y 0).val ∧ (y 0).val < 960 - 64 * (15 - (y 0).val / 64) + 64
    omega
  | ⟨1, _⟩ =>
    show 0 ≤ (y 1).val ∧ (y 1).val < 0 + 128
    omega

theorem tAll_rows (d : Dev nD) (f : Buf (Elt F) (tLoc d)) :
    (tLoc d ↦[tAll]{fullShare} f : sProp 𝕄) = bigSep Finset.univ fun i : Fin 16 => tLoc d ↦[tSet i]{fullShare} f :=
  pointsTo_biUnion Finset.univ (ℓ := tLoc d) tSet tSet_disjoint
theorem rev_rows (d : Dev nD) (f : Buf (Elt F) (rLoc d)) :
    (rLoc d ↦{fullShare} f : sProp 𝕄) = bigSep Finset.univ fun i : Fin 16 => rLoc d ↦[rSet i]{fullShare} f := by
  rw [← pointsTo_biUnion Finset.univ (ℓ := rLoc d) rSet rSet_disjoint, rSet_cover]; try rfl

/-! ## What the handshakes carry -/

abbrev tPtsAll (d : Dev nD) : sProp 𝕄 := tLoc d ↦[tAll]{fullShare} m (tLoc d)
abbrev rPtsAll (d : Dev nD) (f : Buf (Elt F) (rLoc d)) : sProp 𝕄 := rLoc d ↦{fullShare} f

/-- The call takes the table's rows and the reversed window whole, and brings the window back at `REV`; each task its
    64 rows of each. -/
def P : (K (F := F)).Pay (nD := nD) (Val := Elt F) (Name := ℕ) (U := UU) where
  st := fun q d _ => match q with | 0 => iprop(tPtsAll m d ∗ rPtsAll d (m (rLoc d)))
  dn := fun q d _ => match q with | 0 => iprop(tPtsAll m d ∗ rPtsAll d (REV m d))
  go := fun q d _ i => match q with
    | 0 => iprop(tPts m d (Fin.cast nSub_zero i) ∗ rPts d (Fin.cast nSub_zero i) (m (rLoc d)))
  td := fun q d _ i => match q with
    | 0 => iprop(tPts m d (Fin.cast nSub_zero i) ∗ rPts d (Fin.cast nSub_zero i) (REV m d))
  x := fun _ _ => iprop(emp)

instance P_storable : (P (F := F) m).IsStorable where
  st q d _ := match q with
    | 0 => (inferInstance : BI.Storable (upEmb : UEmb _ 𝕄) iprop(tPtsAll m d ∗ rPtsAll d (m (rLoc d))))
  dn q d _ := match q with
    | 0 => (inferInstance : BI.Storable (upEmb : UEmb _ 𝕄) iprop(tPtsAll m d ∗ rPtsAll d (REV m d)))
  go q d _ i := match q with
    | 0 => (inferInstance : BI.Storable (upEmb : UEmb _ 𝕄)
      iprop(tPts m d (Fin.cast nSub_zero i) ∗ rPts d (Fin.cast nSub_zero i) (m (rLoc d))))
  td q d _ i := match q with
    | 0 => (inferInstance : BI.Storable (upEmb : UEmb _ 𝕄)
      iprop(tPts m d (Fin.cast nSub_zero i) ∗ rPts d (Fin.cast nSub_zero i) (REV m d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPtsAll m d ∗ rPtsAll d (m (rLoc d))) ⊢ |={Set.univ}=> iprop(
      (bigSep Finset.univ fun i : Fin ((K (F := F)).nSub 0) =>
        iprop(tPts m d (Fin.cast nSub_zero i) ∗ rPts d (Fin.cast nSub_zero i) (m (rLoc d))))
      ∗ ((bigSep Finset.univ fun i : Fin ((K (F := F)).nSub 0) =>
          iprop(tPts m d (Fin.cast nSub_zero i) ∗ rPts d (Fin.cast nSub_zero i) (REV m d)))
          -∗ iprop(tPtsAll m d ∗ rPtsAll d (REV m d))))
  rw [bigSep_tasks (F := F) (fun i => iprop(tPts m d i ∗ rPts d i (m (rLoc d)))),
    bigSep_tasks (F := F) (fun i => iprop(tPts m d i ∗ rPts d i (REV m d))), bigSep_sep', bigSep_sep']
  unfold tPtsAll rPtsAll tPts rPts
  rw [tAll_rows, rev_rows, rev_rows]
  iintro H; imodintro
  isplitl [H]; · iexact H
  iintro H; iexact H

variable [FloatOps F]

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lambda_ (coordsV c s)
          (Memref.whole main_arg1_scv : Memref sig .scVector .hbm S10001x128 .f32) (Memref.isWhole_whole _) (Memref.whole main_v1_scv : Memref sig .scVector .hbm S1024x128 .f32) (Memref.isWhole_whole _)
          (Memref.whole cc0_scratch0 : Memref sig .scVector .vmem S64x128 .f32) (Memref.isWhole_whole _) (Memref.whole cc0_scratch1 : Memref sig .scVector .vmem S64x128 .f32) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact triple_restated (tile_body m d (coordsV ⟨_, hci.1⟩ ⟨_, hci.2⟩) hF O W hO) rfl .rfl fun _ => obl_post

end Cert.KernelIdeal.Launch

end
-- ==== Proof.Ideal.Main.lean ====
/-
  @main: the reshape, the SparseCore call, the TensorCore's call; and so the program's run: the arguments end as they
  were, the result at `OUT`, every counter at zero.
-/
module

public import proofs.«01_k».proof.Proof.Ideal.Region
public import proofs.«01_k».proof.Proof.Ideal.Launch

@[expose] public section

noncomputable section

namespace Cert.KernelIdeal.Main

open Cert.KernelIdeal Cert.KernelIdeal.Gen Cert.KernelIdeal.Setup Cert.KernelIdeal.Core Cert.KernelIdeal.Region Cert.KernelIdeal.Launch
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MM F

variable (m : (ℓ : Loc nD τ sig) → Buf (Elt F) ℓ) (ρ : Dev nD → PrngReg)

/-! ## The ghost state at the launch -/

theorem cells_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- The pipeline's ghost state on device `d`'s TensorCore. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem pipe_pair (a : UP) (b : Counters) :
    (BI.own ((embR : Emb (UP × Counters) (MM F)) (a, b)) : sProp 𝕄) ⊢ iprop(BI.own (EP a) ∗ BI.own (((Emb.inr : Emb Counters (UP × Counters)).trans embR) b)) :=
  own_pair_emb embR a b

theorem ghost : (BI.own (EP (initOf (Pipeline.cells (Pipeline.pin (pcfgs (F := F)) adm) cells_inj)
      (Pipeline.launchToks (Pipeline.pin (pcfgs (F := F)) adm) cells_inj))) : sProp 𝕄)
    ⊢ |==> bigSep Finset.univ (G (F := F)) := by
  have h := Pipeline.fund_ghost (Ix := HIx 1) (Val := Elt F) (Name := ℕ) (U := UU) (Lvl := ℕ)
    (Pipeline.pin (pcfgs (F := F)) adm) (EP (F := F)) cells_inj
  rw [show (bigSep Finset.univ fun c : Dev nD => bigSep Finset.univ fun p => (Pipeline.cellsGhost (Pipeline.pin (pcfgs (F := F)) adm) EP p c : sProp 𝕄))
        = bigSep Finset.univ fun c : Dev nD => Pipeline.cellsGhost (Pipeline.pin (pcfgs (F := F)) adm) EP 0 c from
      bigSep_congr fun c _ => bigSep_univ_of_subsingleton (0 : Fin 1),
    show (bigSep Finset.univ fun c : Dev nD => bigSep Finset.univ fun p => (Pipeline.toksInit (Pipeline.pin (pcfgs (F := F)) adm) EP p c : sProp 𝕄))
        = bigSep Finset.univ fun c : Dev nD => Pipeline.toksInit (Pipeline.pin (pcfgs (F := F)) adm) EP 0 c from
      bigSep_congr fun c _ => bigSep_univ_of_subsingleton (0 : Fin 1), ← bigSep_sep'] at h
  exact h

theorem no_extra : (bigSep Finset.univ fun thr : Thread nD τ => bigSep Finset.univ fun q : Fin 1 => (P m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  rw [no_extra]
  unfold u₀
  iintro Hu
  ihave H := (ownU_pair _ _) $$ Hu
  icases H with ⟨HH, HR⟩
  ihave H := (pipe_pair _ _) $$ HR
  icases H with ⟨HP, -⟩
  ihave HG := (ghost (F := F)) $$ HP
  imod HG
  imodintro
  isplitl [HH]; · iexact HH
  isplitl [HG]; · iexact HG
  iempintro

/-! ## The buffers -/

theorem unscopedBufs_list (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ (xLoc d ↦{fullShare} W main_v0) ∗ (rLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop(tPtsAll m d ∗ rPtsAll d (m (rLoc d))) := bigSep_univ_of_subsingleton (0 : Fin 1)
theorem dn0_eq (d : Dev nD) : (bigSep Finset.univ fun c : Fin ((K (F := F)).nCore 0) => (P m).dn 0 d c)
    = iprop(tPtsAll m d ∗ rPtsAll d (REV m d)) := bigSep_univ_of_subsingleton (0 : Fin 1)

/-! ## The reshape -/

abbrev reshapeOp : HloOp τ sig (Elt F) := StableHlo.reshape main_arg0 main_v0 (rfl : (.f32 : EltTy) = .f32) shapeCasts_S1x512x128_S512x128
/-- Device `d`'s buffers at the launch. -/
abbrev V₀ (d : Dev nD) : Valuation τ sig (Elt F) := fun b => m (d, b)

theorem reshape_value (d : Dev nD) : (reshapeOp (F := F)).result (V₀ m d) (Proc.devRef .tc main_v0) = XV m d := by
  refine (StableHlo.reshape_result (τ := τ) (Val := Elt F) main_arg0 main_v0 rfl shapeCasts_S1x512x128_S512x128 _ _ (V₀ m d)).trans ?_
  funext y
  refine (shapeCast_dropUnit_apply ![512, 128] (m (aLoc d)) shapeCasts_S1x512x128_S512x128 y).trans ?_
  refine congrArg (m (aLoc d)) (funext fun a => ?_)
  match a with
  | ⟨0, _⟩ => rfl
  | ⟨1, _⟩ => rfl
  | ⟨2, _⟩ => rfl

theorem reshape_bufs (d : Dev nD) (V : Valuation τ sig (Elt F)) :
    (bigSep (reshapeOp (F := F)).bufs (fun b => ((d, b) : Loc nD τ sig) ↦{fullShare} V b) : sProp 𝕄)
      = iprop((aLoc d ↦{fullShare} V (Proc.devRef .tc main_arg0)) ∗ xLoc d ↦{fullShare} V (Proc.devRef .tc main_v0)) := by
  rw [show (reshapeOp (F := F)).bufs = {Proc.devRef .tc main_arg0, Proc.devRef .tc main_v0} from rfl,
    SparseCore.bigSep_insert' (by decide), bigSep_singleton]

theorem reshape_keeps (d : Dev nD) : (reshapeOp (F := F)).result (V₀ m d) (Proc.devRef .tc main_arg0) = m (aLoc d) :=
  HloOp.result_of_not_mem _ _ (show Proc.devRef .tc main_arg0 ∉ ({Proc.devRef .tc main_v0} : Finset (DevRef τ sig)) from by decide)

/-! ## @main on the TensorCore -/

/-- The TensorCore's call, run as the region. -/
theorem wp_call [∀ e, Nonempty (Elt F e)] (d : Dev nD) (Q : PUnit → sProp 𝕄) :
    iprop((iprop(boundary (SparseCore.T d : Thread nD τ) ∗ Region.post m d) -∗ Q ⟨⟩) ∗ boundary (SparseCore.T d : Thread nD τ) ∗ Region.pre m d
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ())
        : Prog (TpuEff nD τ sig (Elt F) (SparseCore.Sig (ΛP (F := F)) 1) .tc) PUnit)
      = SparseCore.liftProg (.op (.customCall (Pipeline.entry 0) ()) fun _ => .ret ⟨⟩) := rfl
  rw [e]
  have h := Pipeline.RegionSeg.wp (pcfgs (F := F)) adm (pdats m) none cells_inj EP defs₀ 𝒱₀ (K (F := F)).L (K (F := F)).lev
    (region m) d none (fun _ h => nomatch h) (fun _ => .ret ⟨⟩) Q
  rw [show (region m).pre d = Region.pre m d from rfl, show (region m).post d = Region.post m d from rfl] at h
  iintro H
  iapply ((K (F := F)).wp_liftProg (D (F := F)) 𝒱 (SparseCore.T d) Set.univ none)
  iapply h
  icases H with ⟨Hk, Hb, Hpre, Hl, Hg, Ht⟩
  isplitl [Hk]
  · iintro H
    sl_step
    iapply Hk; iexact H
  isplitl [Hb]; · iexact Hb
  isplitl [Hpre]; · iexact Hpre
  isplitl [Hl]; · iexact Hl
  isplitl [Hg] <;> iassumption

abbrev FIN (d : Dev nD) : sProp 𝕄 :=
  iprop((aLoc d ↦{fullShare} m (aLoc d)) ∗ (tLoc d ↦{fullShare} m (tLoc d)) ∗ (oLoc d ↦{fullShare} OUT m d))

/-- What the TensorCore keeps of its handshakes after the one call, beside what it owes (nothing). -/
def kept (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(idle d ∗ kept d) := by
  unfold SparseCore.Cfg.tcSt kept
  rw [(K (F := F)).Otc_end d le_rfl]
  rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_list]
  simp only [main, wp_bind, wp_pure]
  iintro ⟨#Hctx, Hst, ⟨Hb, ⟨Ha, Ht, Hx, Hr, Ho⟩, Hts, -⟩, HG⟩
  -- the reshape
  iapply (wp_hlo (op := reshapeOp) (q := fun _ => fullShare) (F := V₀ m d) 𝒱 (SparseCore.T d) none Set.univ (fun _ _ => rfl)) $$ [Hb Ha Hx]
  · isplitl [Hb]; · iexact Hb
    rw [reshape_bufs]
    isplitl [Ha]; · iexact Ha
    iexact Hx
  rw [reshape_bufs, reshape_value, reshape_keeps]
  iintro ⟨Hb, Ha, Hx⟩
  sl_step
  -- the SparseCore call
  ihave Hts' := (pointsTo_split_subset (Finset.subset_univ (tAll)) (ℓ := tLoc d) (q := fullShare) (f := m (tLoc d))).1 $$ Ht
  icases Hts' with ⟨Ht, Htr⟩
  iapply ((K (F := F)).wp_run (D (F := F)) 𝒱 (EH := EH) (P := P m) κ d 0) $$ [Hst Ht Htr Hr Ha Hx Ho Hb Hts HG]
  isplitr; · iexact Hctx
  isplitl [Hst]; · iexact Hst
  isplitl [Ht Hr]
  · rw [st0_eq]
    isplitl [Ht]; · iexact Ht
    iexact Hr
  iintro ⟨Hst, Hdn⟩
  ihave Hdn' := (Entails.of_eq (dn0_eq m d)) $$ Hdn
  icases Hdn' with ⟨Ht, Hr⟩
  ihave Ht := (pointsTo_split_subset (Finset.subset_univ (tAll)) (ℓ := tLoc d) (q := fullShare) (f := m (tLoc d))).2 $$ [Ht Htr]
  · isplitl [Ht] <;> iassumption
  -- the TensorCore's call
  ihave Hlev := ((K (F := F)).ctx_levAts κ) $$ Hctx
  ihave Hst' := (Entails.of_eq (show ((K (F := F)).tcSt EH d ((0 : Fin 1).val + 1) : sProp 𝕄) = _ from tcSt_one d)) $$ Hst
  icases Hst' with ⟨HO, Hrest⟩
  iapply (wp_call m d) $$ [Ha Ht Hx Hr Ho HO Hrest Hb Hts HG Hlev]
  isplitl [Ha Ht Hrest Hts]
  · iintro ⟨Hb, Hpost⟩
    unfold Region.post
    icases Hpost with ⟨Ho, HO⟩
    imodintro
    isplitl [HO Hrest]
    · rw [tcSt_one]
      isplitl [HO]; · iexact HO
      iexact Hrest
    isplitl [Ha Ht Ho]
    · isplitl [Ha]; · iexact Ha
      isplitl [Ht]; · iexact Ht
      iexact Ho
    isplitl [Hb] <;> iassumption
  isplitl [Hb]; · iexact Hb
  isplitl [Hx Hr Ho HO]
  · unfold Region.pre
    isplitl [Hx]; · iexact Hx
    isplitl [Hr]; · iexact Hr
    isplitl [Ho]; · iexact Ho
    iexact HO
  isplitl [Hlev]; · iexact Hlev
  iexact HG

/-! ## The run -/

def fq (d : Dev nD) (s' : Phys nD τ sig (Elt F)) : Prop :=
  s'.mem.mem (aLoc d) = m (aLoc d) ∧ s'.mem.mem (tLoc d) = m (tLoc d) ∧ s'.mem.mem (oLoc d) = OUT m d

theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (read_whole (aLoc d) (m (aLoc d)) s') $$ [Ha HSI]
  · isplitl [Ha] <;> iassumption
  icases H with ⟨%h1, HSI⟩
  ihave H := (read_whole (tLoc d) (m (tLoc d)) s') $$ [Ht HSI]
  · isplitl [Ht] <;> iassumption
  icases H with ⟨%h2, HSI⟩
  ihave H := (read_whole (oLoc d) (OUT m d) s') $$ [Ho HSI]
  · isplitl [Ho] <;> iassumption
  icases H with ⟨%h3, -⟩
  ipureintro; exact ⟨h1, h2, h3⟩

/-- What every final state satisfies. -/
def QC : PUnit × MemSt nD τ sig (Elt F) → Prop := fun r =>
  (∀ c : Dev nD, r.2.mem (aLoc c) = m (aLoc c) ∧ r.2.mem (tLoc c) = m (tLoc c) ∧ r.2.mem (oLoc c) = OUT m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.KernelIdeal.Main

end
-- ==== Proof.Host.Words.lean ====
/-
  The table row that the reference looks up for a pair of positions, as 32-bit words: the clipped, shifted difference
  of the two positions is a small natural number, so none of the guards that the lookup wraps round it ever acts.
-/
module

public import Idealize.ShloMosaic.PureOps.Ideal.Laws
public import Idealize.ShloMosaic.Lib.ValueIdx

@[expose] public section

noncomputable section

namespace Cert.Host.Words

open Idealize.ShloMosaic

/-- A natural number below 2³¹ reads back from its word, signed. -/
theorem toInt_word (p : Nat) (hp : p < 2147483648) : (BitVec.ofNat 32 p).toInt = (p : Int) := by
  rw [BitVec.toInt_eq_toNat_of_lt (by rw [BitVec.toNat_ofNat]; omega), BitVec.toNat_ofNat]
  omega

/-- The conversion of an integer-valued real in the signed range gives that integer's word. -/
theorem fptosi_int (z : Int) (h0 : -2147483648 ≤ z) (h1 : z ≤ 2147483647) :
    Ideal.fptosi 32 (((z : ℝ)) : EReal) = BitVec.ofInt 32 z := by
  unfold Ideal.fptosi
  rw [Ideal.toIntClamped_coe]
  congr 1
  have : (if (0 : ℝ) ≤ (z : ℝ) then ⌊(z : ℝ)⌋ else ⌈(z : ℝ)⌉) = z := by
    split <;> simp
  rw [this]
  norm_num
  omega

/-- The difference of two positions' float values, converted back, is the word of their integer difference. -/
theorem diff_word (i j : Nat) (hi : i < 512) (hj : j < 512) :
    Ideal.fptosi 32 (((((BitVec.ofNat 32 i).toInt : ℝ)) : EReal) - ((((BitVec.ofNat 32 j).toInt : ℝ)) : EReal))
      = BitVec.ofInt 32 ((i : Int) - (j : Int)) := by
  rw [toInt_word i (by omega), toInt_word j (by omega), ← EReal.coe_sub, ← Int.cast_sub]
  exact fptosi_int _ (by omega) (by omega)

/-- The clipped, shifted difference of two positions is the word of a natural number. -/
theorem clip_word (i j : Nat) (hi : i < 512) (hj : j < 512) :
    IntOp.minsi 10000#32 (IntOp.maxsi 0#32 (IntOp.addi (BitVec.ofInt 32 ((i : Int) - (j : Int))) 5000#32))
      = BitVec.ofNat 32 (5000 + i - j) := by
  have e : IntOp.addi (BitVec.ofInt 32 ((i : Int) - (j : Int))) 5000#32 = BitVec.ofNat 32 (5000 + i - j) := by
    show BitVec.ofInt 32 ((i : Int) - (j : Int)) + BitVec.ofInt 32 5000 = _
    rw [← BitVec.ofInt_add, ← BitVec.ofInt_natCast]
    congr 1
    omega
  rw [e]
  have t := toInt_word (5000 + i - j) (by omega)
  have m : IntOp.maxsi 0#32 (BitVec.ofNat 32 (5000 + i - j)) = BitVec.ofNat 32 (5000 + i - j) := by
    unfold IntOp.maxsi
    rw [if_neg]
    rw [BitVec.slt_iff_toInt_lt, t, show (0#32 : BitVec 32).toInt = 0 from rfl]
    omega
  rw [m]
  unfold IntOp.minsi
  rw [if_neg]
  rw [BitVec.slt_iff_toInt_lt, t, show (10000#32 : BitVec 32).toInt = 10000 from rfl]
  omega

/-- A row number that is not negative is not wrapped. -/
theorem wrap_word (p : Nat) (hp : p < 10001) :
    Scalar.select (IntOp.cmpi .slt (BitVec.ofNat 32 p) 0#32) (IntOp.addi (BitVec.ofNat 32 p) 10001#32) (BitVec.ofNat 32 p)
      = BitVec.ofNat 32 p := by
  have h : IntOp.cmpi .slt (BitVec.ofNat 32 p) 0#32 = 0#1 := by
    show BitVec.ofBool ((BitVec.ofNat 32 p).slt 0#32) = 0#1
    rw [show (BitVec.ofNat 32 p).slt 0#32 = false from ?_]
    · rfl
    · rw [Bool.eq_false_iff, ne_eq, BitVec.slt_iff_toInt_lt, toInt_word p (by omega), show (0#32 : BitVec 32).toInt = 0 from rfl]
      omega
  rw [h]
  rfl

/-- A row number inside the table passes both range tests. -/
theorem inside_word (p : Nat) (hp : p < 10001) :
    IntOp.andi (IntOp.cmpi .sge (BitVec.ofNat 32 p) 0#32) (IntOp.cmpi .sle (BitVec.ofNat 32 p) 10000#32) = 1#1 := by
  have h0 : (0#32 : BitVec 32).sle (BitVec.ofNat 32 p) = true := by
    rw [BitVec.sle_iff_toInt_le, toInt_word p (by omega), show (0#32 : BitVec 32).toInt = 0 from rfl]
    omega
  have h1 : (BitVec.ofNat 32 p).sle 10000#32 = true := by
    rw [BitVec.sle_iff_toInt_le, toInt_word p (by omega), show (10000#32 : BitVec 32).toInt = 10000 from rfl]
    omega
  show IntOp.andi (BitVec.ofBool ((0#32 : BitVec 32).sle (BitVec.ofNat 32 p))) (BitVec.ofBool ((BitVec.ofNat 32 p).sle 10000#32)) = 1#1
  rw [h0, h1]
  rfl

end Cert.Host.Words

end
-- ==== Proof.Host.Rows.lean ====
/-
  The reference's result read at a place: the lookup's row number, its in-range test, the gathered row, and the sum.
-/
module

public import proofs.«01_k».proof.Proof.Gen.ReferenceIdeal.Run
public import proofs.«01_k».proof.Proof.Host.Words
public import Idealize.ShloMosaic.Lib.IdealHost
public import Idealize.ShloMosaic.Lib.Pipeline.Value
public import Idealize.ShloMosaic.PureOps.Reduce

@[expose] public section

noncomputable section

namespace Cert.Host.Rows

open Cert.ReferenceIdeal Cert.ReferenceIdeal.Gen Cert.Host.Words
open Idealize.ShloMosaic Idealize.ShloMosaic.TcCoe Idealize.ShloMosaic.ValueIdx

/-- The difference of the two positions' float values. -/
def DIFF : FVec Ideal S512x512 .f32 :=
  subf (broadcastInDim S512x512 ![0, 1] bcast_S512x1_S512x512_0_1 (broadcastInDim S512x1 ![0] bcast_S512_S512x1_0 (sitofp .f32 (iotaInDim S512 32 0))))
    (broadcastInDim S512x512 ![0, 1] bcast_S1x512_S512x512_0_1 (broadcastInDim S1x512 ![1] bcast_S512_S1x512_1 (sitofp .f32 (iotaInDim S512 32 0))))

/-- The clipped, shifted difference. -/
def CLIP : IVec S512x512 32 :=
  minsi (broadcastInDim S512x512 ![] bcast_S_S512x512 (id (constantI S_ 32 10000#32)))
    (maxsi (broadcastInDim S512x512 ![] bcast_S_S512x512 (id (constantI S_ 32 0#32)))
      (addi (fptosi 32 DIFF) (broadcastInDim S512x512 ![] bcast_S_S512x512 (constantI S_ 32 5000#32))))

/-- The lookup's row numbers: the negative ones wrapped, with a last axis of one. -/
def ROW : IVec S512x512x1 32 :=
  broadcastInDim S512x512x1 ![0, 1] bcast_S512x512_S512x512x1_0_1
    (select (cmpi .slt CLIP (broadcastInDim S512x512 ![] bcast_S_S512x512 (constantI S_ 32 0#32)))
      (addi CLIP (broadcastInDim S512x512 ![] bcast_S_S512x512 (constantI S_ 32 10001#32))) CLIP)

/-- Which row numbers are inside the table. -/
def INSIDE : IVec S512x512x1 1 :=
  andi (cmpi .sge ROW (broadcastInDim S512x512x1 ![] bcast_S_S512x512x1 (constantI S_ 32 0#32)))
    (cmpi .sle ROW (broadcastInDim S512x512x1 ![0, 1, 2] bcast_S1x1x1_S512x512x1_0_1_2 (broadcastInDim S1x1x1 ![2] bcast_S1_S1x1x1_2 (constantI S1 32 10000#32))))

/-- The looked-up rows, a fill value where the row number is outside the table. -/
def TAKEN (tab : FVec Ideal S10001x128 .f32) : FVec Ideal S512x512x128 .f32 :=
  select (broadcastInDim S512x512x128 ![0, 1] bcast_S512x512_S512x512x128_0_1
      (Host.reduce IntOp.andi INSIDE (constantI S_ 1 1#1) reducesTo_S512x512x1_S512x512_d2 h_S_))
    (Host.gather gather_S10001x128_S512x512x1_S512x512x128_2_0_n_n_0_2_1128 tab ROW)
    (broadcastInDim S512x512x128 ![] bcast_S_S512x512x128 (constant S_ .f32 0x7FC00000#32))

/-- The reference's result in these names. -/
theorem res_eq (m : (ℓ : Loc nD τ sig) → Buf (Elt Ideal) ℓ) (c : Dev nD) :
    Cert.ReferenceIdeal.Value.res_main_v12 m c
      = (addf (broadcastInDim S512x512x128 ![0, 1, 2] bcast_S1x512x128_S512x512x128_0_1_2 (m ((c.tc : Thread nD τ).loc main_arg0) : FVec Ideal S1x512x128 .f32))
          (TAKEN (m ((c.tc : Thread nD τ).loc main_arg1))) : FVec Ideal S512x512x128 .f32) := by
  unfold Cert.ReferenceIdeal.Value.res_main_v12 TAKEN INSIDE ROW CLIP DIFF
  rfl

/-- The float difference at a pair of positions. -/
theorem DIFF_apply (i j : Fin 512) :
    DIFF (ix2 i j) = ((((BitVec.ofNat 32 i.val).toInt : ℝ)) : EReal) - ((((BitVec.ofNat 32 j.val).toInt : ℝ)) : EReal) := by
  unfold DIFF
  rw [subf_apply,
    broadcastInDim_apply _ bcast_S512x1_S512x512_0_1 _ (ix2 i j) (ix2 i 0) (fun a => by match a with | ⟨0, _⟩ => rfl | ⟨1, _⟩ => rfl),
    broadcastInDim_apply _ bcast_S512_S512x1_0 _ (ix2 i 0) (ix1 i) (fun a => by match a with | ⟨0, _⟩ => rfl),
    broadcastInDim_apply _ bcast_S1x512_S512x512_0_1 _ (ix2 i j) (ix2 0 j) (fun a => by match a with | ⟨0, _⟩ => rfl | ⟨1, _⟩ => rfl),
    broadcastInDim_apply _ bcast_S512_S1x512_1 _ (ix2 0 j) (ix1 j) (fun a => by match a with | ⟨0, _⟩ => rfl)]
  rfl

/-- The clipped, shifted difference at a pair of positions. -/
theorem CLIP_apply (i j : Fin 512) : CLIP (ix2 i j) = BitVec.ofNat 32 (5000 + i.val - j.val) := by
  rw [← clip_word i.val j.val i.isLt j.isLt, ← diff_word i.val j.val i.isLt j.isLt, ← DIFF_apply i j]
  rfl

/-- The lookup's row number at a pair of positions. -/
theorem ROW_apply (i j : Fin 512) : ROW (ix3 i j 0) = BitVec.ofNat 32 (5000 + i.val - j.val) := by
  unfold ROW
  rw [broadcastInDim_apply _ bcast_S512x512_S512x512x1_0_1 _ (ix3 i j 0) (ix2 i j) (fun a => by match a with | ⟨0, _⟩ => rfl | ⟨1, _⟩ => rfl),
    ← wrap_word (5000 + i.val - j.val) (by omega), ← CLIP_apply i j]
  rfl

/-- Every row number is inside the table. -/
theorem INSIDE_eq : INSIDE = fun _ => 1#1 := by
  funext y
  obtain ⟨i, j, k, rfl⟩ : ∃ (i j : Fin 512) (k : Fin 1), y = ix3 i j k := ⟨_, _, _, eq_ix3 y⟩
  obtain rfl : k = 0 := Subsingleton.elim _ _
  rw [← inside_word (5000 + i.val - j.val) (by omega), ← ROW_apply i j]
  rfl

/-- The conjunction of bits that are all set is set. -/
theorem all_set (j : S512x512.Idx) :
    Host.reduce IntOp.andi (fun _ : S512x512x1.Idx => 1#1) (constantI S_ 1 1#1) reducesTo_S512x512x1_S512x512_d2 h_S_ j = 1#1 := by
  rw [Host.reduce_eq_foldl]
  generalize List.filter _ _ = l
  show l.foldl (fun r _ => IntOp.andi r 1#1) 1#1 = 1#1
  induction l with
  | nil => rfl
  | cons a l ih => exact ih

/-- The gather at a place: the table at the place's row number, read signed and kept inside the table. -/
theorem gather_apply (tab : FVec Ideal S10001x128 .f32) (i j : Fin 512) (k : Fin 128) (r : IVec S512x512x1 32) :
    Host.gather gather_S10001x128_S512x512x1_S512x512x128_2_0_n_n_0_2_1128 tab r (ix3 i j k)
      = tab (ix2 ⟨min (r (ix3 i j 0)).toInt.toNat 10000, by omega⟩ k) := by
  unfold Host.gather
  refine congrArg tab (funext fun a => Fin.ext ?_)
  show gather_S10001x128_S512x512x1_S512x512x128_2_0_n_n_0_2_1128.start (ix3 i j k) r a
      + gather_S10001x128_S512x512x1_S512x512x128_2_0_n_n_0_2_1128.batchCoord (ix3 i j k) a
      + gather_S10001x128_S512x512x1_S512x512x128_2_0_n_n_0_2_1128.offCoord (ix3 i j k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S10001x128_S512x512x1_S512x512x128_2_0_n_n_0_2_1128.startIndexMap from List.mem_singleton.mpr rfl)]
    have hsi : gather_S10001x128_S512x512x1_S512x512x128_2_0_n_n_0_2_1128.siIdx (ix3 i j k)
        ⟨List.idxOf (0 : Fin 2) gather_S10001x128_S512x512x1_S512x512x128_2_0_n_n_0_2_1128.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    exact congrArg (fun z => min (r z).toInt.toNat 10000) hsi
  · unfold GatherDims.start
    rw [dif_neg (show (1 : Fin 2) ∉ gather_S10001x128_S512x512x1_S512x512x128_2_0_n_n_0_2_1128.startIndexMap from by decide), Nat.zero_add]
    rfl

/-- The looked-up value at a place. -/
theorem TAKEN_apply (tab : FVec Ideal S10001x128 .f32) (i j : Fin 512) (k : Fin 128) :
    TAKEN tab (ix3 i j k) = tab (ix2 ⟨5000 + i.val - j.val, by omega⟩ k) := by
  unfold TAKEN
  rw [select_apply,
    broadcastInDim_apply _ bcast_S512x512_S512x512x128_0_1 _ (ix3 i j k) (ix2 i j) (fun a => by match a with | ⟨0, _⟩ => rfl | ⟨1, _⟩ => rfl),
    INSIDE_eq, all_set, select_one, gather_apply]
  refine congrArg tab (congrArg (fun r => ix2 r k) (Fin.ext ?_))
  show min (ROW (ix3 i j 0)).toInt.toNat 10000 = 5000 + i.val - j.val
  rw [ROW_apply, toInt_word (5000 + i.val - j.val) (by omega), Int.toNat_natCast]
  omega

/-- THE REFERENCE AT A PLACE: the input's row plus the table's row at the shifted difference of the two positions. -/
theorem res_apply (m : (ℓ : Loc nD τ sig) → Buf (Elt Ideal) ℓ) (c : Dev nD) (i j : Fin 512) (k : Fin 128) :
    (Cert.ReferenceIdeal.Value.res_main_v12 m c : FVec Ideal S512x512x128 .f32) (ix3 i j k)
      = (FloatOps.addf (F := Ideal) (φ := .f32) ((m ((c.tc : Thread nD τ).loc main_arg0) : FVec Ideal S1x512x128 .f32) (ix3 0 j k))
          ((m ((c.tc : Thread nD τ).loc main_arg1) : FVec Ideal S10001x128 .f32) (ix2 ⟨5000 + i.val - j.val, by omega⟩ k)) : Ideal .f32) := by
  rw [res_eq]
  show FloatOps.addf (F := Ideal) (φ := .f32)
    (broadcastInDim S512x512x128 ![0, 1, 2] bcast_S1x512x128_S512x512x128_0_1_2 (m ((c.tc : Thread nD τ).loc main_arg0) : FVec Ideal S1x512x128 .f32) (ix3 i j k))
    (TAKEN (m ((c.tc : Thread nD τ).loc main_arg1)) (ix3 i j k)) = _
  rw [TAKEN_apply,
    broadcastInDim_apply _ bcast_S1x512x128_S512x512x128_0_1_2 _ (ix3 i j k) (ix3 0 j k)
      (fun a => by match a with | ⟨0, _⟩ => rfl | ⟨1, _⟩ => rfl | ⟨2, _⟩ => rfl)]

end Cert.Host.Rows

end
-- ==== Proof.Host.Equal.lean ====
/-
  The kernel's result array is the reference's, at the exact reals: place by place, both add the input's row to the
  table's row at the shifted difference of the two positions.
-/
module

public import proofs.«01_k».proof.Proof.Host.Rows
public import proofs.«01_k».proof.Proof.Ideal.Core

@[expose] public section

noncomputable section

namespace Cert.Host.Equal

open Idealize.ShloMosaic Idealize.ShloMosaic.TcCoe Idealize.ShloMosaic.ValueIdx
open Cert.KernelIdeal (S10001x128 S512x512x128 S1x512x128)

/-- The window's place read back to the table: row 5000 + i − j. -/
theorem revIdx_winIdx (i j : Fin 512) (k : Fin 128) :
    Cert.KernelIdeal.Setup.revIdx (Cert.KernelIdeal.Core.winIdx (ix3 i j k))
      = (ix2 (⟨5000 + i.val - j.val, by omega⟩ : Fin 10001) k : S10001x128.Idx) := by
  funext a
  match a with
  | ⟨0, _⟩ =>
    refine Fin.ext ?_
    show 5511 - (511 - i.val + j.val) = 5000 + i.val - j.val
    omega
  | ⟨1, _⟩ => rfl

/-- The reshaped input's place read back to the argument. -/
theorem argIdx_rowIdx (i j : Fin 512) (k : Fin 128) :
    Cert.KernelIdeal.Core.argIdx (Cert.KernelIdeal.Core.rowIdx (ix3 i j k)) = (ix3 0 j k : S1x512x128.Idx) := by
  funext a
  match a with
  | ⟨0, _⟩ => rfl
  | ⟨1, _⟩ => rfl
  | ⟨2, _⟩ => rfl

/-- The two results agree when the two memories agree on the arguments. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v12 m' c = Cert.KernelIdeal.Core.OUT m c := by
  funext (y : S512x512x128.Idx)
  obtain ⟨i, j, k, rfl⟩ : ∃ (i j : Fin 512) (k : Fin 128), y = ix3 i j k := ⟨_, _, _, eq_ix3 y⟩
  refine (Cert.Host.Rows.res_apply m' c i j k).trans ?_
  rw [h0, h1, ← revIdx_winIdx i j k, ← argIdx_rowIdx i j k]
  rfl

end Cert.Host.Equal

end
-- ==== Proof.lean ====
/-
  The certificate: the kernel, on the bits and at the exact reals, ends every run with its arguments as they were, every
  counter at zero and its result array at a stated value (`run_main` in the two copies of the proof of the run, the
  modules under `Chip` and `Ideal`); the reference's run is the printed list of host operations read back; and at
  the exact reals the two results agree place by place (the modules under `Host`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Chip.Main
public import proofs.«01_k».proof.Proof.Ideal.Main
public import proofs.«01_k».proof.Proof.Host.Equal
public import Idealize.ShloMosaic.Lib.Quiescent

@[expose] public section

noncomputable section

namespace Cert.Proof

open Idealize.ShloMosaic Idealize.ShloMosaic.TcCoe Idealize.SL.Sem

/-- The kernel on the bits leaves its arguments alone and every counter at zero. -/
theorem frame_K : Cert.quiescent_Kernel := fun m ρ _ =>
  (θ_run Cert.Kernel.defs Cert.Kernel.threads _).mono (fun _ h => ⟨fun c => ⟨(h.1 c).1, (h.1 c).2.1⟩, h.2⟩)
    (Cert.Kernel.Main.run_main m ρ)

/-- The kernel at the exact reals leaves its arguments alone and every counter at zero. -/
theorem frame_KI : Cert.quiescent_KernelIdeal := fun m ρ _ =>
  (θ_run Cert.KernelIdeal.defs Cert.KernelIdeal.threads _).mono (fun _ h => ⟨fun c => ⟨(h.1 c).1, (h.1 c).2.1⟩, h.2⟩)
    (Cert.KernelIdeal.Main.run_main m ρ)

/-- The reference leaves its arguments alone; it declares no semaphore. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's result is the reference's at the exact reals, for every argument. -/
theorem algebraic : Cert.algebraic_KernelIdeal_ReferenceIdeal := fun m ρ m' ρ' _ hargs =>
  ⟨fun c => Cert.KernelIdeal.Core.OUT m c,
    (θ_run Cert.KernelIdeal.defs Cert.KernelIdeal.threads _).mono
      (fun _ h c => ⟨(h.1 c).2.2, (h.1 c).1, (h.1 c).2.1⟩) (Cert.KernelIdeal.Main.run_main m ρ),
    (θ_run Cert.ReferenceIdeal.defs _ _).mono
      (fun _ h c => ⟨(h c).1.trans (Cert.Host.Equal.equal m m' c (hargs c).1 (hargs c).2), (h c).2⟩)
      (Cert.ReferenceIdeal.Value.run m' ρ')⟩

theorem claim : Cert.Claim := ⟨Cert.Kernel.Gen.facts, Cert.KernelIdeal.Gen.facts, Cert.ReferenceIdeal.Gen.facts,
  frame_K, frame_KI, frame_RI, trivial, algebraic⟩

end Cert.Proof

end
